-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8192x18944 : Shape := ⟨3, ![2, 8192, 18944]⟩
abbrev S2x8192 : Shape := ⟨2, ![2, 8192]⟩
abbrev S2x8192x48 : Shape := ⟨3, ![2, 8192, 48]⟩
abbrev S3584x18944 : Shape := ⟨2, ![3584, 18944]⟩
abbrev S3584 : Shape := ⟨1, ![3584]⟩
abbrev S3584x48 : Shape := ⟨2, ![3584, 48]⟩
abbrev S48x18944 : Shape := ⟨2, ![48, 18944]⟩
abbrev S16384x18944 : Shape := ⟨2, ![16384, 18944]⟩
abbrev S16384x48 : Shape := ⟨2, ![16384, 48]⟩
abbrev S16x1x1024 : Shape := ⟨3, ![16, 1, 1024]⟩
abbrev S1x3584 : Shape := ⟨2, ![1, 3584]⟩
abbrev S16384x3584 : Shape := ⟨2, ![16384, 3584]⟩
abbrev S1024x512 : Shape := ⟨2, ![1024, 512]⟩
abbrev S1x1x1024 : Shape := ⟨3, ![1, 1, 1024]⟩
abbrev S1024x48 : Shape := ⟨2, ![1024, 48]⟩
abbrev S3584x512 : Shape := ⟨2, ![3584, 512]⟩
abbrev S48x512 : Shape := ⟨2, ![48, 512]⟩
abbrev S1024x3584 : Shape := ⟨2, ![1024, 3584]⟩
abbrev S48x1024 : Shape := ⟨2, ![48, 1024]⟩
abbrev S1x1024 : Shape := ⟨2, ![1, 1024]⟩
abbrev S128x1024 : Shape := ⟨2, ![128, 1024]⟩
abbrev S1024x128 : Shape := ⟨2, ![1024, 128]⟩
abbrev S1024x1 : Shape := ⟨2, ![1024, 1]⟩

abbrev nBuf : Space → Nat
  | .hbm => 16
  | .vmem => 22
  | .smem => 0
  | _ => 0

abbrev bufTy : (tb : Table) → Fin (tcTables nBuf tb) → BufTy
  | .hbm, ⟨0, _⟩ => ⟨S2x8192x18944, .fp8e5m2⟩
  | .hbm, ⟨1, _⟩ => ⟨S2x8192, .f32⟩
  | .hbm, ⟨2, _⟩ => ⟨S2x8192x48, .fp8e4m3⟩
  | .hbm, ⟨3, _⟩ => ⟨S2x8192, .f32⟩
  | .hbm, ⟨4, _⟩ => ⟨S3584x18944, .fp8e4m3⟩
  | .hbm, ⟨5, _⟩ => ⟨S3584, .f32⟩
  | .hbm, ⟨6, _⟩ => ⟨S3584x48, .bf16⟩
  | .hbm, ⟨7, _⟩ => ⟨S48x18944, .bf16⟩
  | .hbm, ⟨8, _⟩ => ⟨S16384x18944, .fp8e5m2⟩
  | .hbm, ⟨9, _⟩ => ⟨S16384x48, .fp8e4m3⟩
  | .hbm, ⟨10, _⟩ => ⟨S16x1x1024, .f32⟩
  | .hbm, ⟨11, _⟩ => ⟨S16x1x1024, .f32⟩
  | .hbm, ⟨12, _⟩ => ⟨S1x3584, .f32⟩
  | .hbm, ⟨13, _⟩ => ⟨S16384x3584, .bf16⟩
  | .hbm, ⟨14, _⟩ => ⟨S48x18944, .f32⟩
  | .hbm, ⟨15, _⟩ => ⟨S16384x48, .bf16⟩
  | .local _ .vmem, ⟨0, _⟩ => ⟨S1024x512, .fp8e5m2⟩
  | .local _ .vmem, ⟨1, _⟩ => ⟨S1024x512, .fp8e5m2⟩
  | .local _ .vmem, ⟨2, _⟩ => ⟨S1x1x1024, .f32⟩
  | .local _ .vmem, ⟨3, _⟩ => ⟨S1x1x1024, .f32⟩
  | .local _ .vmem, ⟨4, _⟩ => ⟨S1024x48, .fp8e4m3⟩
  | .local _ .vmem, ⟨5, _⟩ => ⟨S1024x48, .fp8e4m3⟩
  | .local _ .vmem, ⟨6, _⟩ => ⟨S1x1x1024, .f32⟩
  | .local _ .vmem, ⟨7, _⟩ => ⟨S1x1x1024, .f32⟩
  | .local _ .vmem, ⟨8, _⟩ => ⟨S3584x512, .fp8e4m3⟩
  | .local _ .vmem, ⟨9, _⟩ => ⟨S3584x512, .fp8e4m3⟩
  | .local _ .vmem, ⟨10, _⟩ => ⟨S1x3584, .f32⟩
  | .local _ .vmem, ⟨11, _⟩ => ⟨S3584x48, .bf16⟩
  | .local _ .vmem, ⟨12, _⟩ => ⟨S48x512, .bf16⟩
  | .local _ .vmem, ⟨13, _⟩ => ⟨S48x512, .bf16⟩
  | .local _ .vmem, ⟨14, _⟩ => ⟨S1024x3584, .bf16⟩
  | .local _ .vmem, ⟨15, _⟩ => ⟨S1024x3584, .bf16⟩
  | .local _ .vmem, ⟨16, _⟩ => ⟨S48x18944, .f32⟩
  | .local _ .vmem, ⟨17, _⟩ => ⟨S1024x48, .bf16⟩
  | .local _ .vmem, ⟨18, _⟩ => ⟨S1024x48, .bf16⟩
  | .local _ .vmem, ⟨19, _⟩ => ⟨S1024x3584, .f32⟩
  | .local _ .vmem, ⟨20, _⟩ => ⟨S48x1024, .f32⟩
  | .local _ .vmem, ⟨21, _⟩ => ⟨S48x1024, .bf16⟩
  | _, _ => ⟨S2x8192x18944, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![16, 37], ![false, false]⟩

def k0_mult1 (i : grid0.Coords) : BitVec 32 :=
  let arg1 : BitVec 32 := BitVec.ofNat 32 (i 1).val
  let c512_i32 : BitVec 32 := 512#32
  let v23 : BitVec 32 := Scalar.muli arg1 c512_i32
  v23
def k0_cond2 (i : grid0.Coords) : BitVec 1 :=
  let arg0 : BitVec 32 := BitVec.ofNat 32 (i 0).val
  let c0_i32_19 : BitVec 32 := 0#32
  let v25 : BitVec 1 := Scalar.cmpi .eq arg0 c0_i32_19
  let v26 : BitVec 32 := Scalar.extui v25
  let c0_i32_20 : BitVec 32 := 0#32
  let v27 : BitVec 1 := Scalar.cmpi .ne v26 c0_i32_20
  v27

def k0_off1 (i : grid0.Coords) : Fin 2 → Nat :=
  let c0_24 : Index := 0#32
  let arg1 : BitVec 32 := BitVec.ofNat 32 (i 1).val
  let c512_i32 : BitVec 32 := 512#32
  let v23 : BitVec 32 := Scalar.muli arg1 c512_i32
  let v24 : BitVec 32 := v23
  let v34 : Index := Scalar.indexCast v24
  ![0, v34.toNat]
def k0_cond3 (i : grid0.Coords) : BitVec 1 :=
  let arg0 : BitVec 32 := BitVec.ofNat 32 (i 0).val
  let c0_i32_21 : BitVec 32 := 0#32
  let v28 : BitVec 1 := Scalar.cmpi .sgt arg0 c0_i32_21
  let v29 : BitVec 32 := Scalar.extui v28
  let c0_i32_22 : BitVec 32 := 0#32
  let v30 : BitVec 1 := Scalar.cmpi .ne v29 c0_i32_22
  v30

def k0_off2 (i : grid0.Coords) : Fin 2 → Nat :=
  let c0_24 : Index := 0#32
  let arg1 : BitVec 32 := BitVec.ofNat 32 (i 1).val
  let c512_i32 : BitVec 32 := 512#32
  let v23 : BitVec 32 := Scalar.muli arg1 c512_i32
  let v24 : BitVec 32 := v23
  let v34 : Index := Scalar.indexCast v24
  ![0, v34.toNat]
def k0_cond4 (i : grid0.Coords) : BitVec 1 :=
  let arg1 : BitVec 32 := BitVec.ofNat 32 (i 1).val
  let c36_i32 : BitVec 32 := 36#32
  let v31 : BitVec 1 := Scalar.cmpi .eq arg1 c36_i32
  let v32 : BitVec 32 := Scalar.extui v31
  let c0_i32_23 : BitVec 32 := 0#32
  let v33 : BitVec 1 := Scalar.cmpi .ne v32 c0_i32_23
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x48 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3584x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3584x48 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S48x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x3584 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S48x18944 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x48 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S2x8192x18944 : Shape := ⟨3, ![2, 8192, 18944]⟩
abbrev S2x8192 : Shape := ⟨2, ![2, 8192]⟩
abbrev S2x8192x48 : Shape := ⟨3, ![2, 8192, 48]⟩
abbrev S3584x18944 : Shape := ⟨2, ![3584, 18944]⟩
abbrev S3584 : Shape := ⟨1, ![3584]⟩
abbrev S3584x48 : Shape := ⟨2, ![3584, 48]⟩
abbrev S48x18944 : Shape := ⟨2, ![48, 18944]⟩
abbrev S16384x18944 : Shape := ⟨2, ![16384, 18944]⟩
abbrev S16384x1 : Shape := ⟨2, ![16384, 1]⟩
abbrev S16384x48 : Shape := ⟨2, ![16384, 48]⟩
abbrev S1x3584 : Shape := ⟨2, ![1, 3584]⟩
abbrev S16384x3584 : Shape := ⟨2, ![16384, 3584]⟩

abbrev nBuf : Space → Nat
  | .hbm => 16
  | .vmem => 11
  | .smem => 0
  | _ => 0

abbrev bufTy : (tb : Table) → Fin (tcTables nBuf tb) → BufTy
  | .hbm, ⟨0, _⟩ => ⟨S2x8192x18944, .fp8e5m2⟩
  | .hbm, ⟨1, _⟩ => ⟨S2x8192, .f32⟩
  | .hbm, ⟨2, _⟩ => ⟨S2x8192x48, .fp8e4m3⟩
  | .hbm, ⟨3, _⟩ => ⟨S2x8192, .f32⟩
  | .hbm, ⟨4, _⟩ => ⟨S3584x18944, .fp8e4m3⟩
  | .hbm, ⟨5, _⟩ => ⟨S3584, .f32⟩
  | .hbm, ⟨6, _⟩ => ⟨S3584x48, .bf16⟩
  | .hbm, ⟨7, _⟩ => ⟨S48x18944, .bf16⟩
  | .hbm, ⟨8, _⟩ => ⟨S16384x18944, .fp8e5m2⟩
  | .hbm, ⟨9, _⟩ => ⟨S16384x1, .f32⟩
  | .hbm, ⟨10, _⟩ => ⟨S16384x48, .fp8e4m3⟩
  | .hbm, ⟨11, _⟩ => ⟨S16384x1, .f32⟩
  | .hbm, ⟨12, _⟩ => ⟨S1x3584, .f32⟩
  | .hbm, ⟨13, _⟩ => ⟨S16384x3584, .bf16⟩
  | .hbm, ⟨14, _⟩ => ⟨S48x18944, .f32⟩
  | .hbm, ⟨15, _⟩ => ⟨S16384x48, .bf16⟩
  | .local _ .vmem, ⟨0, _⟩ => ⟨S16384x18944, .fp8e5m2⟩
  | .local _ .vmem, ⟨1, _⟩ => ⟨S16384x1, .f32⟩
  | .local _ .vmem, ⟨2, _⟩ => ⟨S16384x48, .fp8e4m3⟩
  | .local _ .vmem, ⟨3, _⟩ => ⟨S16384x1, .f32⟩
  | .local _ .vmem, ⟨4, _⟩ => ⟨S3584x18944, .fp8e4m3⟩
  | .local _ .vmem, ⟨5, _⟩ => ⟨S1x3584, .f32⟩
  | .local _ .vmem, ⟨6, _⟩ => ⟨S3584x48, .bf16⟩
  | .local _ .vmem, ⟨7, _⟩ => ⟨S48x18944, .bf16⟩
  | .local _ .vmem, ⟨8, _⟩ => ⟨S16384x3584, .bf16⟩
  | .local _ .vmem, ⟨9, _⟩ => ⟨S48x18944, .f32⟩
  | .local _ .vmem, ⟨10, _⟩ => ⟨S16384x48, .bf16⟩
  | _, _ => ⟨S2x8192x18944, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S16384x18944 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x48 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584x18944 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3584x48 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S48x18944 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16384x3584 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S48x18944 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16384x48 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KernelBody.lean ====
/-
  What the body of the kernel, as printed at its own bit formats, does at one grid point, as one triple: from the contents of its fourteen buffers to the contents it leaves in them.
-/
module

public import proofs.«01_k».proof.Proof.Gen.Kernel.Frame
public import proofs.«01_k».proof.Proof.Gen.Kernel.Skeleton
public import Idealize.ShloMosaic.Lib.VecWindow
public import Idealize.ShloMosaic.Lib.Pipeline.ValueKit

@[expose] public section

set_option maxRecDepth 16384

noncomputable section

namespace Cert.Kernel.Val

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RDat cellOf)

variable {F : FTy → Type} [FloatOps F]

local notation "𝕄" => MT nD τ sig Unit (Elt F) ℕ (UR sig nD τ) ℕ

/-! ## When each branch of the body is taken -/

/-- The body is at the first column block of its row block. -/
abbrev isFirst (i : grid0.Coords) : Prop := (Scalar.cmpi .ne (Scalar.extui (Scalar.cmpi .eq (BitVec.ofNat 32 (i 1).val) 0#32)) 0#32) = 1#1
/-- The body is in the first row block. -/
abbrev isTop (i : grid0.Coords) : Prop := k0_cond2 i = 1#1
/-- The body is in a later row block. -/
abbrev isBelow (i : grid0.Coords) : Prop := k0_cond3 i = 1#1
/-- The body is at the last column block of its row block. -/
abbrev isLast (i : grid0.Coords) : Prop := k0_cond4 i = 1#1

/-- The first column block is the points divisible by 37. -/
theorem isFirst_iff : ∀ t : Fin cfg0.N, isFirst (grid0.coords t) ↔ t.val % 37 = 0 :=
  (by decide +kernel : ∀ t : Fin grid0.N, isFirst (grid0.coords t) ↔ t.val % 37 = 0)
/-- The first row block is the points below 37. -/
theorem isTop_iff : ∀ t : Fin cfg0.N, isTop (grid0.coords t) ↔ t.val < 37 :=
  (by decide +kernel : ∀ t : Fin grid0.N, isTop (grid0.coords t) ↔ t.val < 37)
/-- The later row blocks are the points from 37 on. -/
theorem isBelow_iff : ∀ t : Fin cfg0.N, isBelow (grid0.coords t) ↔ 37 ≤ t.val :=
  (by decide +kernel : ∀ t : Fin grid0.N, isBelow (grid0.coords t) ↔ 37 ≤ t.val)
/-- The last column block is the points that leave 36 on division by 37. -/
theorem isLast_iff : ∀ t : Fin cfg0.N, isLast (grid0.coords t) ↔ t.val % 37 = 36 :=
  (by decide +kernel : ∀ t : Fin grid0.N, isLast (grid0.coords t) ↔ t.val % 37 = 36)

/-! ## What the body leaves in each buffer -/

/-- The accumulator of `dy · wᵀ`: restarted at zero at the first column block, then this block's product added. -/
def accAt (i : grid0.Coords) (x0 : Vec F S1024x512 .fp8e5m2) (x4 : Vec F S3584x512 .fp8e4m3) (acc : Vec F S1024x3584 .f32) : Vec F S1024x3584 .f32 :=
  k0_pay8 x0 (if isFirst i then k0_pay4 else acc) x4
/-- The accumulator of `b · dyᵀ`: restarted at zero at the first column block, then this block's product added. -/
def dhtAt (i : grid0.Coords) (x0 : Vec F S1024x512 .fp8e5m2) (x7 : Vec F S48x512 .bf16) (dht : Vec F S48x1024 .f32) : Vec F S48x1024 .f32 :=
  k0_pay9 x0 (if isFirst i then k0_pay5 else dht) x7
/-- The scaled transpose of the `z` block: computed at the first column block, kept after it. -/
def zstAt (i : grid0.Coords) (x1 : Vec F S1x1x1024 .f32) (x2 : Vec F S1024x48 .fp8e4m3) (x3 : Vec F S1x1x1024 .f32) (zst : Vec F S48x1024 .bf16) : Vec F S48x1024 .bf16 :=
  if isFirst i then k0_pay6 x2 x3 x1 else zst
/-- The `dx` block: written at the last column block, from the accumulators as this point leaves them; untouched before it. -/
def dxAt (i : grid0.Coords) (x1 : Vec F S1x1x1024 .f32) (x5 : Vec F S1x3584 .f32) (x6 : Vec F S3584x48 .bf16) (acc : Vec F S1024x3584 .f32) (dht : Vec F S48x1024 .f32) (y8 : Vec F S1024x3584 .bf16) : Vec F S1024x3584 .bf16 :=
  if isLast i then k0_pay3 dht x1 x6 x1 acc x5 else y8
/-- The `dh` block: written at the last column block, from the accumulator as this point leaves it; untouched before it. -/
def dhAt (i : grid0.Coords) (x1 : Vec F S1x1x1024 .f32) (dht : Vec F S48x1024 .f32) (y10 : Vec F S1024x48 .bf16) : Vec F S1024x48 .bf16 :=
  if isLast i then k0_pay2 dht x1 else y10
/-- The `db` array: this point's columns set to the point's product in the first row block, that product added to them in a later one. -/
def dbAt (i : grid0.Coords) (x0 : Vec F S1024x512 .fp8e5m2) (zst : Vec F S48x1024 .bf16) (y9 : Vec F S48x18944 .f32) : Vec F S48x18944 .f32 :=
  if h : isBelow i then
    VecWindow.put y9 (k0_off2 i) S48x512.size (k0_pay1 (k0_pay10 x0 zst) (View.ld (Val := Elt F) (e' := .f32) y9 (Rect.unit (s := S48x18944) (k0_off2 i) S48x512.size (k0_off2_inb i h))))
  else VecWindow.put y9 (k0_off1 i) S48x512.size (k0_pay10 x0 zst)

/-! ## Whole-buffer loads and stores -/

section whole

variable {Val : EltTy → Type} {σ' : RefSig} {κ : Kind} {sp : Space} {S : Shape} {e : EltTy}

/-- A load of the whole buffer is its contents. -/
theorem readAt_whole (v : View σ' κ sp S e) (f : v.ty.Contents Val) {off : Fin S.rank → ℕ} (inb : ∀ a, off a + S.size a ≤ S.size a) :
    v.readAt Val (Rect.unit off (no_index S.size) inb).toLoadRect f = v.read Val f := View.readAt_full v f inb

/-- After a store of the whole buffer, its contents are what was stored. -/
theorem read_stored (v : View σ' κ sp S e) (f : v.ty.Contents Val) {off : Fin S.rank → ℕ} (inb : ∀ a, off a + S.size a ≤ S.size a)
    (w : (Rect.unit off S.size inb).shape.Idx → Val e) (L : List (View.Piece Val S e)) :
    v.read Val (v.writes Val f ((⟨Rect.unit off (no_index S.size) inb, w⟩ : View.Piece Val S e) :: L)) = w := View.read_writes_full v f inb w L

/-- A load of the whole buffer after a store of the whole buffer is what was stored. -/
theorem readAt_stored (v : View σ' κ sp S e) (f : v.ty.Contents Val) {off off' : Fin S.rank → ℕ} (inb : ∀ a, off a + S.size a ≤ S.size a)
    (inb' : ∀ a, off' a + S.size a ≤ S.size a) (w : (Rect.unit off' S.size inb').shape.Idx → Val e) (L : List (View.Piece Val S e)) :
    v.readAt Val (Rect.unit off (no_index S.size) inb).toLoadRect (v.writes Val f ((⟨Rect.unit off' (no_index S.size) inb', w⟩ : View.Piece Val S e) :: L)) = w :=
  View.readAt_writes_full v f inb inb' w L

/-- The same where the load is stated over the stores alone. -/
theorem readCov_stored [∀ e, Nonempty (Val e)] (v : View σ' κ sp S e) {off off' : Fin S.rank → ℕ} (inb : ∀ a, off a + S.size a ≤ S.size a)
    (inb' : ∀ a, off' a + S.size a ≤ S.size a) (w : (Rect.unit off' S.size inb').shape.Idx → Val e) (L : List (View.Piece Val S e)) :
    v.readCov ((⟨Rect.unit off' (no_index S.size) inb', w⟩ : View.Piece Val S e) :: L) (Rect.unit off (no_index S.size) inb).toLoadRect = w :=
  View.readCov_full v inb inb' w L

end whole

/-! ## The body's triple -/

set_option maxHeartbeats 2000000 in
/-- From any contents of the inputs, outputs and scratch, on whole buffers, the body runs and leaves the inputs as they were and every
    other buffer at the contents named above. -/
theorem body_run (c : Dev nD) (i : grid0.Coords) (arg2 : Memref sig .tc .vmem S1024x512 .fp8e5m2) (harg2 : arg2.IsWhole) (arg3 : Memref sig .tc .vmem S1x1x1024 .f32) (harg3 : arg3.IsWhole) (arg4 : Memref sig .tc .vmem S1024x48 .fp8e4m3) (harg4 : arg4.IsWhole) (arg5 : Memref sig .tc .vmem S1x1x1024 .f32) (harg5 : arg5.IsWhole) (arg6 : Memref sig .tc .vmem S3584x512 .fp8e4m3) (harg6 : arg6.IsWhole) (arg7 : Memref sig .tc .vmem S1x3584 .f32) (harg7 : arg7.IsWhole) (arg8 : Memref sig .tc .vmem S3584x48 .bf16) (harg8 : arg8.IsWhole) (arg9 : Memref sig .tc .vmem S48x512 .bf16) (harg9 : arg9.IsWhole) (arg10 : Memref sig .tc .vmem S1024x3584 .bf16) (harg10 : arg10.IsWhole) (arg11 : Memref sig .tc .vmem S48x18944 .f32) (harg11 : arg11.IsWhole) (arg12 : Memref sig .tc .vmem S1024x48 .bf16) (harg12 : arg12.IsWhole) (arg13 : Memref sig .tc .vmem S1024x3584 .f32) (harg13 : arg13.IsWhole) (arg14 : Memref sig .tc .vmem S48x1024 .f32) (harg14 : arg14.IsWhole) (arg15 : Memref sig .tc .vmem S48x1024 .bf16) (harg15 : arg15.IsWhole)
    (hx : isBelow i ↔ ¬ isTop i) (hk : isFirst i → ¬ isLast i)
    (x0 : Vec F S1024x512 .fp8e5m2) (x1 : Vec F S1x1x1024 .f32) (x2 : Vec F S1024x48 .fp8e4m3) (x3 : Vec F S1x1x1024 .f32) (x4 : Vec F S3584x512 .fp8e4m3) (x5 : Vec F S1x3584 .f32) (x6 : Vec F S3584x48 .bf16) (x7 : Vec F S48x512 .bf16) (y8 : Vec F S1024x3584 .bf16) (y9 : Vec F S48x18944 .f32) (y10 : Vec F S1024x48 .bf16) (acc : Vec F S1024x3584 .f32) (dht : Vec F S48x1024 .f32) (zst : Vec F S48x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ owns (c : Thread nD τ) arg11 fullShare y9 ∗ owns (c : Thread nD τ) arg12 fullShare y10 ∗ owns (c : Thread nD τ) arg13 fullShare acc ∗ owns (c : Thread nD τ) arg14 fullShare dht ∗ owns (c : Thread nD τ) arg15 fullShare zst
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (dxAt i x1 x5 x6 (accAt i x0 x4 acc) (dhtAt i x0 x7 dht) y8) ∗ owns (c : Thread nD τ) arg11 fullShare (dbAt i x0 (zstAt i x1 x2 x3 zst) y9) ∗ owns (c : Thread nD τ) arg12 fullShare (dhAt i x1 (dhtAt i x0 x7 dht) y10) ∗ owns (c : Thread nD τ) arg13 fullShare (accAt i x0 x4 acc) ∗ owns (c : Thread nD τ) arg14 fullShare (dhtAt i x0 x7 dht) ∗ owns (c : Thread nD τ) arg15 fullShare (zstAt i x1 x2 x3 zst)) -∗ K ⟨⟩))
      ⊢ wp frame (wpE (defs₀ (F := F)) Variants.none c none) E (cc0_lora_fa_backward i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_lora_fa_backward_eq_skeleton]; unfold cc0_lora_fa_backward_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  by_cases hc0 : isFirst i <;> by_cases hc3 : isLast i <;> by_cases hc1 : isTop i
  all_goals first | exact absurd hc3 (hk hc0) | skip
  all_goals first | (have hc2 : ¬ isBelow i := fun h => hx.mp h hc1) | (have hc2 : isBelow i := hx.mpr hc1)
  all_goals
    sl_exec (disch := first | sl_exact hc0 | sl_exact hc1 | sl_exact hc2 | sl_exact hc3)
    sl_step
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H3]
    · iexists _; isplitr; swap; · iexact H3
      ipureintro; exact harg5.read_unread _
    isplitl [H4]
    · iexists _; isplitr; swap; · iexact H4
      ipureintro; exact harg6.read_unread _
    isplitl [H5]
    · iexists _; isplitr; swap; · iexact H5
      ipureintro; exact harg7.read_unread _
    isplitl [H6]
    · iexists _; isplitr; swap; · iexact H6
      ipureintro; exact harg8.read_unread _
    isplitl [H7]
    · iexists _; isplitr; swap; · iexact H7
      ipureintro; exact harg9.read_unread _
    isplitl [H8]
    · iexists _; isplitr; swap; · iexact H8
      ipureintro; try sl_unfold_run_names
      simp only [dxAt, dhtAt, accAt]
      first | simp only [if_pos hc0] | simp only [if_neg hc0] | skip
      first | simp only [if_pos hc3] | simp only [if_neg hc3]
      simp only [readAt_whole, readAt_stored, readCov_stored, read_stored, Memref.IsWhole.read_unread]
    isplitl [H9]
    · iexists _; isplitr; swap; · iexact H9
      ipureintro; try sl_unfold_run_names
      simp only [dbAt, zstAt]
      first | simp only [if_pos hc0] | simp only [if_neg hc0] | skip
      first | simp only [dif_pos hc2] | simp only [dif_neg hc2]
      simp only [readAt_whole, readAt_stored, readCov_stored, read_stored, Memref.IsWhole.read_unread]
      first
        | rfl
        | (refine (View.read_writes_cons_put _ _ _ _ [] rfl).trans ?_
           simp only [View.readAt_eq_ld, View.writes, Memref.IsWhole.read_unread])
    isplitl [H10]
    · iexists _; isplitr; swap; · iexact H10
      ipureintro; try sl_unfold_run_names
      simp only [dhAt, dhtAt]
      first | simp only [if_pos hc0] | simp only [if_neg hc0] | skip
      first | simp only [if_pos hc3] | simp only [if_neg hc3]
      simp only [readAt_whole, readAt_stored, readCov_stored, read_stored, Memref.IsWhole.read_unread]
    isplitl [H11]
    · iexists _; isplitr; swap; · iexact H11
      ipureintro; try sl_unfold_run_names
      simp only [accAt]
      first | simp only [if_pos hc0] | simp only [if_neg hc0] | skip
      simp only [readAt_whole, readAt_stored, readCov_stored, read_stored, Memref.IsWhole.read_unread]
    isplitl [H12]
    · iexists _; isplitr; swap; · iexact H12
      ipureintro; try sl_unfold_run_names
      simp only [dhtAt]
      first | simp only [if_pos hc0] | simp only [if_neg hc0] | skip
      simp only [readAt_whole, readAt_stored, readCov_stored, read_stored, Memref.IsWhole.read_unread]
    · iexists _; isplitr; swap; · iexact H13
      ipureintro; try sl_unfold_run_names
      simp only [zstAt]
      first | simp only [if_pos hc0] | simp only [if_neg hc0] | skip
      simp only [readAt_whole, readAt_stored, readCov_stored, read_stored, Memref.IsWhole.read_unread]

end Cert.Kernel.Val

end
-- ==== Proof.KernelRun.lean ====
/-
  The run of the kernel as printed at its own bit formats: what its buffers carry from one grid point to the next, the body's obligation over that, and the launch — every
  execution ends with the arguments unchanged, and with each result made of blocks the body may leave.
-/
module

public import proofs.«01_k».proof.Proof.KernelBody
public import Idealize.ShloMosaic.Lib.Pipeline.ArrRel

@[expose] public section

set_option maxRecDepth 16384

noncomputable section

namespace Cert.Kernel.Val

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RDat cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at a point -/

abbrev ms0 (t : Fin cfg0.N) : Memref sig .tc .vmem S1024x512 .fp8e5m2 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x48 .fp8e4m3 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S3584x512 .fp8e4m3 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x3584 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S3584x48 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S48x512 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x3584 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S48x18944 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1024x48 .bf16 := win0_10.stage (cfg0.slots t 10)
abbrev hs10 (t : Fin cfg0.N) : (ms10 t).IsWhole := hstage0_10 ((cfg0.slots t 10).cast nbuf0_10)
abbrev accM : Memref sig .tc .vmem S1024x3584 .f32 := Memref.whole cc0_scratch0
abbrev dhtM : Memref sig .tc .vmem S48x1024 .f32 := Memref.whole cc0_scratch1
abbrev zstM : Memref sig .tc .vmem S48x1024 .bf16 := Memref.whole cc0_scratch2

/-! ## What is carried from point to point -/

/-- The carried contents: the `dx` accumulator, the `dh` accumulator, the scaled transpose of the `z` block. -/
abbrev Carried (F : FTy → Type) : Type := Vec F S1024x3584 .f32 × Vec F S48x1024 .f32 × Vec F S48x1024 .bf16

/-- One point's step of the carried contents, over the point's input blocks. -/
def step (c : Dev nD) (t : Fin cfg0.N) (s : Carried F) : Carried F :=
  (accAt (grid0.coords t) (iblk m c 0 t) (iblk m c 4 t) s.1, dhtAt (grid0.coords t) (iblk m c 0 t) (iblk m c 7 t) s.2.1,
    zstAt (grid0.coords t) (iblk m c 1 t) (iblk m c 2 t) (iblk m c 3 t) s.2.2)

/-- At the first column block of a row block the step forgets what it was given. -/
theorem step_first (c : Dev nD) (t : Fin cfg0.N) (h : t.val % 37 = 0) (s s' : Carried F) : step m c t s = step m c t s' := by
  have h' := (isFirst_iff t).mpr h
  unfold step accAt dhtAt zstAt
  rw [if_pos h', if_pos h', if_pos h', if_pos h', if_pos h', if_pos h']

/-- The carried contents after point `n`. -/
def carried (c : Dev nD) : (n : ℕ) → n < cfg0.N → Carried F
  | 0, hn => step m c ⟨0, hn⟩ (k0_pay4, k0_pay5, k0_pay6 (iblk m c 2 ⟨0, hn⟩) (iblk m c 3 ⟨0, hn⟩) (iblk m c 1 ⟨0, hn⟩))
  | n + 1, hn => step m c ⟨n + 1, hn⟩ (carried c n (Nat.lt_of_succ_lt hn))

/-- At the first column block of a row block the carried contents are a step from anything. -/
theorem carried_first (c : Dev nD) (t : Fin cfg0.N) (h : t.val % 37 = 0) (s : Carried F) : carried m c t.val t.isLt = step m c t s := by
  obtain ⟨n, hn⟩ := t
  cases n with
  | zero => exact step_first m c _ h _ _
  | succ n => exact step_first m c _ h _ _

/-- What the scratch holds before point `n`: anything before the first, then the carried contents of the point before. -/
def PhiS (c : Dev nD) : (n : ℕ) → n ≤ cfg0.N → sProp 𝕄
  | 0, _ => Pipeline.ΦA spec0 c
  | n + 1, hn => iprop(iprop(owns (c : Thread nD τ) accM fullShare (carried m c n hn).1 ∗ owns (c : Thread nD τ) dhtM fullShare (carried m c n hn).2.1 ∗ owns (c : Thread nD τ) zstM fullShare (carried m c n hn).2.2) ∗ (∃ r, prngReg c r))

/-- The launch's scratch with the three buffers named: each at some contents. -/
theorem PhiA0_eq (c : Dev nD) :
    (Pipeline.ΦA spec0 c : sProp 𝕄)
      = iprop(iprop((∃ d, owns (c : Thread nD τ) accM fullShare d) ∗ (∃ d, owns (c : Thread nD τ) dhtM fullShare d) ∗ (∃ d, owns (c : Thread nD τ) zstM fullShare d)) ∗ (∃ r, prngReg c r)) := by
  unfold Pipeline.ΦA; rw [scopedRest0_eq]; simp only [accM, dhtM, zstM, owns_whole]; try rfl

/-- Before a point the scratch is at some contents from which the point's step gives the carried contents. -/
theorem PhiS_open (c : Dev nD) (t : Fin cfg0.N) :
    PhiS m c t.val (Nat.le_of_lt t.isLt) ⊢ iprop(∃ s : Carried F, ⌜step m c t s = carried m c t.val t.isLt⌝ ∗ (owns (c : Thread nD τ) accM fullShare s.1 ∗ owns (c : Thread nD τ) dhtM fullShare s.2.1 ∗ owns (c : Thread nD τ) zstM fullShare s.2.2) ∗ (∃ r, prngReg c r)) := by
  obtain ⟨n, hn⟩ := t
  cases n with
  | zero =>
    show (Pipeline.ΦA spec0 c : sProp 𝕄) ⊢ _
    rw [PhiA0_eq]
    iintro ⟨⟨⟨%d0, H0⟩, ⟨%d1, H1⟩, ⟨%d2, H2⟩⟩, Hg⟩
    iexists ((d0, d1, d2) : Carried F)
    isplitr; · ipureintro; exact step_first m c _ rfl _ _
    isplitl [H0 H1 H2]
    · isplitl [H0]; · iexact H0
      isplitl [H1]; · iexact H1
      iexact H2
    iexact Hg
  | succ n =>
    show iprop(iprop(owns (c : Thread nD τ) accM fullShare (carried m c n _).1 ∗ owns (c : Thread nD τ) dhtM fullShare (carried m c n _).2.1 ∗ owns (c : Thread nD τ) zstM fullShare (carried m c n _).2.2) ∗ (∃ r, prngReg c r)) ⊢ _
    iintro ⟨⟨H0, H1, H2⟩, Hg⟩
    iexists (carried m c n (Nat.lt_of_succ_lt hn))
    isplitr; · ipureintro; rfl
    isplitl [H0 H1 H2]
    · isplitl [H0]; · iexact H0
      isplitl [H1]; · iexact H1
      iexact H2
    iexact Hg

/-- After a point the scratch is at the carried contents. -/
theorem PhiS_close (c : Dev nD) (t : Fin cfg0.N) (s : Carried F) (hs : step m c t s = carried m c t.val t.isLt) :
    iprop((owns (c : Thread nD τ) accM fullShare (accAt (grid0.coords t) (iblk m c 0 t) (iblk m c 4 t) s.1) ∗ owns (c : Thread nD τ) dhtM fullShare (dhtAt (grid0.coords t) (iblk m c 0 t) (iblk m c 7 t) s.2.1) ∗ owns (c : Thread nD τ) zstM fullShare (zstAt (grid0.coords t) (iblk m c 1 t) (iblk m c 2 t) (iblk m c 3 t) s.2.2)) ∗ (∃ r, prngReg c r))
      ⊢ PhiS m c (t.val + 1) t.isLt := by
  show _ ⊢ iprop(iprop(owns (c : Thread nD τ) accM fullShare (carried m c t.val t.isLt).1 ∗ owns (c : Thread nD τ) dhtM fullShare (carried m c t.val t.isLt).2.1 ∗ owns (c : Thread nD τ) zstM fullShare (carried m c t.val t.isLt).2.2) ∗ (∃ r, prngReg c r))
  rw [← hs]; exact .rfl

/-! ## The proof data -/

/-- What the body may leave in each window at a point, given what it found: an input as found; `dx` and `dh` from the carried
    accumulators at the last column block and as found before it; `db` with this point's columns updated. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => X = dxAt (grid0.coords t) (iblk m c 1 t) (iblk m c 5 t) (iblk m c 6 t) (carried m c t.val t.isLt).1 (carried m c t.val t.isLt).2.1 Y
    | ⟨9, _⟩ => fun Y X => X = dbAt (grid0.coords t) (iblk m c 0 t) (carried m c t.val t.isLt).2.2 Y
    | ⟨10, _⟩ => fun Y X => X = dhAt (grid0.coords t) (iblk m c 1 t) (carried m c t.val t.isLt).2.1 Y
  Φ t := PhiS m c t.val (Nat.le_of_lt_succ t.isLt)
  q _ := fullShare
  owed _ := 0

/-- The arrays start at what the region finds. -/
theorem A_eq (c : Dev nD) (w : Fin cfg0.W) : (rdat m c).A w = V m c (Pipeline.arrRef spec0 w) := by
  dsimp only [rdat]

/-! Each input's buffer holds its block at every point. -/
theorem finds0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  rfl
theorem finds1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  rfl
theorem finds2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  rfl
theorem finds3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  rfl
theorem finds4 (c : Dev nD) (t : Fin cfg0.N) (Y) (h : (rdat m c).Finds 4 t Y) : Y = iblk m c 4 t := by
  obtain ⟨d, rfl⟩ := (rdat m c).finds_in_eq_fetched 4 rfl (fun _ _ _ => rfl) (fun _ _ _ h => h) t Y h
  rfl
theorem finds5 (c : Dev nD) (t : Fin cfg0.N) (Y) (h : (rdat m c).Finds 5 t Y) : Y = iblk m c 5 t := by
  obtain ⟨d, rfl⟩ := (rdat m c).finds_in_eq_fetched 5 rfl (fun _ _ _ => rfl) (fun _ _ _ h => h) t Y h
  rfl
theorem finds6 (c : Dev nD) (t : Fin cfg0.N) (Y) (h : (rdat m c).Finds 6 t Y) : Y = iblk m c 6 t := by
  obtain ⟨d, rfl⟩ := (rdat m c).finds_in_eq_fetched 6 rfl (fun _ _ _ => rfl) (fun _ _ _ h => h) t Y h
  rfl
theorem finds7 (c : Dev nD) (t : Fin cfg0.N) (Y) (h : (rdat m c).Finds 7 t Y) : Y = iblk m c 7 t := by
  obtain ⟨d, rfl⟩ := (rdat m c).finds_in_eq_fetched 7 rfl (fun _ _ _ => rfl) (fun _ _ _ h => h) t Y h
  rfl

/-! What the body's triple leaves in each output is what the data allow. -/
theorem after8 (c : Dev nD) (t : Fin cfg0.N) (s : Carried F) (hs : step m c t s = carried m c t.val t.isLt) (Y) :
    (rdat m c).after 8 t Y (dxAt (grid0.coords t) (iblk m c 1 t) (iblk m c 5 t) (iblk m c 6 t) (accAt (grid0.coords t) (iblk m c 0 t) (iblk m c 4 t) s.1) (dhtAt (grid0.coords t) (iblk m c 0 t) (iblk m c 7 t) s.2.1) Y) := by
  show _ = dxAt _ _ _ _ _ _ _
  rw [← hs]; rfl
theorem after9 (c : Dev nD) (t : Fin cfg0.N) (s : Carried F) (hs : step m c t s = carried m c t.val t.isLt) (Y) :
    (rdat m c).after 9 t Y (dbAt (grid0.coords t) (iblk m c 0 t) (zstAt (grid0.coords t) (iblk m c 1 t) (iblk m c 2 t) (iblk m c 3 t) s.2.2) Y) := by
  show _ = dbAt _ _ _ _
  rw [← hs]; rfl
theorem after10 (c : Dev nD) (t : Fin cfg0.N) (s : Carried F) (hs : step m c t s = carried m c t.val t.isLt) (Y) :
    (rdat m c).after 10 t Y (dhAt (grid0.coords t) (iblk m c 1 t) (dhtAt (grid0.coords t) (iblk m c 0 t) (iblk m c 7 t) s.2.1) Y) := by
  show _ = dhAt _ _ _ _
  rw [← hs]; rfl

/-! ## The body's obligation -/

set_option maxHeartbeats 2000000 in
/-- The body at any point, the windows one by one. -/
theorem sound_body (c : Dev nD) (t : Fin cfg0.N) (Y : (w : Fin cfg0.W) → (cfg0.win w).block.Idx → Elt F (cfg0.win w).elt) (hY : ∀ w, (rdat m c).Finds w t (Y w)) :
    iprop((rdat m c).Φ t.castSucc ∗ (rdat m c).owesAt () t.castSucc ∗ owns (c : Thread nD τ) (ms0 t) fullShare (Y 0) ∗ owns (c : Thread nD τ) (ms1 t) fullShare (Y 1) ∗ owns (c : Thread nD τ) (ms2 t) fullShare (Y 2) ∗ owns (c : Thread nD τ) (ms3 t) fullShare (Y 3) ∗ owns (c : Thread nD τ) (ms4 t) fullShare (Y 4) ∗ owns (c : Thread nD τ) (ms5 t) fullShare (Y 5) ∗ owns (c : Thread nD τ) (ms6 t) fullShare (Y 6) ∗ owns (c : Thread nD τ) (ms7 t) fullShare (Y 7) ∗ owns (c : Thread nD τ) (ms8 t) fullShare (Y 8) ∗ owns (c : Thread nD τ) (ms9 t) fullShare (Y 9) ∗ owns (c : Thread nD τ) (ms10 t) fullShare (Y 10))
      ⊢ wp frame (wpE (defs₀ (F := F)) Variants.none c none) Set.univ (bodyAt0 t) (fun _ => iprop((rdat m c).Φ t.succ ∗ (rdat m c).owesAt () t.succ ∗ (∃ X, ⌜(rdat m c).after 0 t (Y 0) X⌝ ∗ owns (c : Thread nD τ) (ms0 t) fullShare X) ∗ (∃ X, ⌜(rdat m c).after 1 t (Y 1) X⌝ ∗ owns (c : Thread nD τ) (ms1 t) fullShare X) ∗ (∃ X, ⌜(rdat m c).after 2 t (Y 2) X⌝ ∗ owns (c : Thread nD τ) (ms2 t) fullShare X) ∗ (∃ X, ⌜(rdat m c).after 3 t (Y 3) X⌝ ∗ owns (c : Thread nD τ) (ms3 t) fullShare X) ∗ (∃ X, ⌜(rdat m c).after 4 t (Y 4) X⌝ ∗ owns (c : Thread nD τ) (ms4 t) fullShare X) ∗ (∃ X, ⌜(rdat m c).after 5 t (Y 5) X⌝ ∗ owns (c : Thread nD τ) (ms5 t) fullShare X) ∗ (∃ X, ⌜(rdat m c).after 6 t (Y 6) X⌝ ∗ owns (c : Thread nD τ) (ms6 t) fullShare X) ∗ (∃ X, ⌜(rdat m c).after 7 t (Y 7) X⌝ ∗ owns (c : Thread nD τ) (ms7 t) fullShare X) ∗ (∃ X, ⌜(rdat m c).after 8 t (Y 8) X⌝ ∗ owns (c : Thread nD τ) (ms8 t) fullShare X) ∗ (∃ X, ⌜(rdat m c).after 9 t (Y 9) X⌝ ∗ owns (c : Thread nD τ) (ms9 t) fullShare X) ∗ (∃ X, ⌜(rdat m c).after 10 t (Y 10) X⌝ ∗ owns (c : Thread nD τ) (ms10 t) fullShare X))) := by
  unfold bodyAt0
  rw [show (rdat m c).owesAt () t.succ = (rdat m c).owesAt () t.castSucc from rfl]
  rw [show (rdat m c).Φ t.castSucc = PhiS m c t.val (Nat.le_of_lt t.isLt) from rfl, show (rdat m c).Φ t.succ = PhiS m c (t.val + 1) t.isLt from rfl]
  rw [finds0 m c t _ (hY 0), finds1 m c t _ (hY 1), finds2 m c t _ (hY 2), finds3 m c t _ (hY 3), finds4 m c t _ (hY 4), finds5 m c t _ (hY 5), finds6 m c t _ (hY 6), finds7 m c t _ (hY 7)]
  have hx : isBelow (grid0.coords t) ↔ ¬ isTop (grid0.coords t) := by rw [isBelow_iff, isTop_iff]; omega
  have hk : isFirst (grid0.coords t) → ¬ isLast (grid0.coords t) := by rw [isFirst_iff, isLast_iff]; omega
  refine BIBase.Entails.trans (sep_mono (PhiS_open m c t) .rfl) ?_
  iintro ⟨⟨%s, %hs, ⟨HS0, HS1, HS2⟩, Hg⟩, Ho, H0, H1, H2, H3, H4, H5, H6, H7, H8, H9, H10⟩
  iapply (body_run c (grid0.coords t) _ _ _ _ _ _ _ _ _ _ _ _ _ _ _ _ _ _ _ _ _ _ _ _ _ _ _ _ hx hk (iblk m c 0 t) (iblk m c 1 t) (iblk m c 2 t) (iblk m c 3 t) (iblk m c 4 t) (iblk m c 5 t) (iblk m c 6 t) (iblk m c 7 t) (Y 8) (Y 9) (Y 10) s.1 s.2.1 s.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  iintro ⟨H0, H1, H2, H3, H4, H5, H6, H7, H8, H9, H10, HS0, HS1, HS2⟩
  isplitl [HS0 HS1 HS2 Hg]
  · iapply (PhiS_close m c t s hs)
    isplitl [HS0 HS1 HS2]
    · isplitl [HS0]; · iexact HS0
      isplitl [HS1]; · iexact HS1
      iexact HS2
    iexact Hg
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; exact after8 m c t s hs _
  isplitl [H9]
  · iexists _; isplitr; swap; · iexact H9
    ipureintro; exact after9 m c t s hs _
  · iexists _; isplitr; swap; · iexact H10
    ipureintro; exact after10 m c t s hs _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : (rdat (F := F) m c).BodyObligation (defs₀ (F := F)) Variants.none () Set.univ := fun t Y hY => by
  rw [bigSep_W0, bigSep_W0, defs₀_row]
  exact triple_restated (sound_body m c t Y hY) rfl .rfl fun _ => .rfl

/-- What the launch hands the region is the invariant before the first point. -/
theorem hin (c : Dev nD) : Pipeline.ΦA spec0 c ⊢ (rdat m c).Φ 0 := Entails.refl _

/-- After the last point the invariant gives the scratch back. -/
theorem hout (c : Dev nD) : (rdat m c).Φ (Fin.last cfg0.N) ⊢ Pipeline.ΦA spec0 c := by
  have key : ∀ (n : ℕ) (h : n ≤ cfg0.N), n ≠ 0 → PhiS m c n h ⊢ Pipeline.ΦA spec0 c := by
    intro n h hz
    cases n with
    | zero => exact absurd rfl hz
    | succ n =>
      rw [PhiA0_eq]
      show iprop(iprop(owns (c : Thread nD τ) accM fullShare (carried m c n _).1 ∗ owns (c : Thread nD τ) dhtM fullShare (carried m c n _).2.1 ∗ owns (c : Thread nD τ) zstM fullShare (carried m c n _).2.2) ∗ (∃ r, prngReg c r)) ⊢ _
      iintro ⟨⟨HS0, HS1, HS2⟩, Hg⟩
      isplitl [HS0 HS1 HS2]
      · isplitl [HS0]; · iexists _; iexact HS0
        isplitl [HS1]; · iexists _; iexact HS1
        iexists _; iexact HS2
      iexact Hg
  exact key cfg0.N le_rfl (by rw [show cfg0.N = 592 from N_0]; decide)

/-! ## The run and the frame -/

set_option backward.isDefEq.respectTransparency.types false in
/-- The launch: every execution ends with each array at contents the data allow and every semaphore counter at zero. -/
theorem run_quiescent : θ_run defs (onTc (τ := τ) (main (F := F))) (s₀ m ρ) (fun r => (Pipeline.RDat.FramePost (cfgs 0) (fun c => rdat m c) (V m)) r ∧ r.2.sem = fun _ => 0) :=
  Pipeline.RDat.θ_run_frame_track (Q' := _) cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := A_eq m) (hin := hin m) (hout := hout m)

/-- The argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (Pipeline.RDat.FramePost.arr_in h.1 c 4 rfl).trans ((A_eq m c 4).trans (V_main_arg4 m c)),
      ((h.1 c).2 main_arg5 (Pipeline.mem_restRefs_of main_arg5 (by decide) (by decide))).trans (V_main_arg5 m c),
      (Pipeline.RDat.FramePost.arr_in h.1 c 6 rfl).trans ((A_eq m c 6).trans (V_main_arg6 m c)),
      (Pipeline.RDat.FramePost.arr_in h.1 c 7 rfl).trans ((A_eq m c 7).trans (V_main_arg7 m c))⟩, h.2⟩) (run_quiescent m ρ)

end Cert.Kernel.Val

end
-- ==== Proof.Body.lean ====
/-
  What the kernel's body does at one grid point, as one triple: from the contents of its fourteen buffers to the contents it leaves in them.
-/
module

public import proofs.«01_k».proof.Proof.Gen.KernelIdeal.Frame
public import proofs.«01_k».proof.Proof.Gen.KernelIdeal.Skeleton
public import Idealize.ShloMosaic.Lib.VecWindow
public import Idealize.ShloMosaic.Lib.Pipeline.ValueKit

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RDat cellOf)

variable {F : FTy → Type} [FloatOps F]

local notation "𝕄" => MT nD τ sig Unit (Elt F) ℕ (UR sig nD τ) ℕ

/-! ## When each branch of the body is taken -/

/-- The body is at the first column block of its row block. -/
abbrev isFirst (i : grid0.Coords) : Prop := (Scalar.cmpi .ne (Scalar.extui (Scalar.cmpi .eq (BitVec.ofNat 32 (i 1).val) 0#32)) 0#32) = 1#1
/-- The body is in the first row block. -/
abbrev isTop (i : grid0.Coords) : Prop := k0_cond2 i = 1#1
/-- The body is in a later row block. -/
abbrev isBelow (i : grid0.Coords) : Prop := k0_cond3 i = 1#1
/-- The body is at the last column block of its row block. -/
abbrev isLast (i : grid0.Coords) : Prop := k0_cond4 i = 1#1

/-- The first column block is the points divisible by 37. -/
theorem isFirst_iff : ∀ t : Fin cfg0.N, isFirst (grid0.coords t) ↔ t.val % 37 = 0 :=
  (by decide +kernel : ∀ t : Fin grid0.N, isFirst (grid0.coords t) ↔ t.val % 37 = 0)
/-- The first row block is the points below 37. -/
theorem isTop_iff : ∀ t : Fin cfg0.N, isTop (grid0.coords t) ↔ t.val < 37 :=
  (by decide +kernel : ∀ t : Fin grid0.N, isTop (grid0.coords t) ↔ t.val < 37)
/-- The later row blocks are the points from 37 on. -/
theorem isBelow_iff : ∀ t : Fin cfg0.N, isBelow (grid0.coords t) ↔ 37 ≤ t.val :=
  (by decide +kernel : ∀ t : Fin grid0.N, isBelow (grid0.coords t) ↔ 37 ≤ t.val)
/-- The last column block is the points that leave 36 on division by 37. -/
theorem isLast_iff : ∀ t : Fin cfg0.N, isLast (grid0.coords t) ↔ t.val % 37 = 36 :=
  (by decide +kernel : ∀ t : Fin grid0.N, isLast (grid0.coords t) ↔ t.val % 37 = 36)

/-! ## What the body leaves in each buffer -/

/-- The accumulator of `dy · wᵀ`: restarted at zero at the first column block, then this block's product added. -/
def accAt (i : grid0.Coords) (x0 : Vec F S1024x512 .fp8e5m2) (x4 : Vec F S3584x512 .fp8e4m3) (acc : Vec F S1024x3584 .f32) : Vec F S1024x3584 .f32 :=
  k0_pay8 x0 (if isFirst i then k0_pay4 else acc) x4
/-- The accumulator of `b · dyᵀ`: restarted at zero at the first column block, then this block's product added. -/
def dhtAt (i : grid0.Coords) (x0 : Vec F S1024x512 .fp8e5m2) (x7 : Vec F S48x512 .bf16) (dht : Vec F S48x1024 .f32) : Vec F S48x1024 .f32 :=
  k0_pay9 x0 (if isFirst i then k0_pay5 else dht) x7
/-- The scaled transpose of the `z` block: computed at the first column block, kept after it. -/
def zstAt (i : grid0.Coords) (x1 : Vec F S1x1x1024 .f32) (x2 : Vec F S1024x48 .fp8e4m3) (x3 : Vec F S1x1x1024 .f32) (zst : Vec F S48x1024 .bf16) : Vec F S48x1024 .bf16 :=
  if isFirst i then k0_pay6 x2 x3 x1 else zst
/-- The `dx` block: written at the last column block, from the accumulators as this point leaves them; untouched before it. -/
def dxAt (i : grid0.Coords) (x1 : Vec F S1x1x1024 .f32) (x5 : Vec F S1x3584 .f32) (x6 : Vec F S3584x48 .bf16) (acc : Vec F S1024x3584 .f32) (dht : Vec F S48x1024 .f32) (y8 : Vec F S1024x3584 .bf16) : Vec F S1024x3584 .bf16 :=
  if isLast i then k0_pay3 dht x1 x6 x1 acc x5 else y8
/-- The `dh` block: written at the last column block, from the accumulator as this point leaves it; untouched before it. -/
def dhAt (i : grid0.Coords) (x1 : Vec F S1x1x1024 .f32) (dht : Vec F S48x1024 .f32) (y10 : Vec F S1024x48 .bf16) : Vec F S1024x48 .bf16 :=
  if isLast i then k0_pay2 dht x1 else y10
/-- The `db` array: this point's columns set to the point's product in the first row block, that product added to them in a later one. -/
def dbAt (i : grid0.Coords) (x0 : Vec F S1024x512 .fp8e5m2) (zst : Vec F S48x1024 .bf16) (y9 : Vec F S48x18944 .f32) : Vec F S48x18944 .f32 :=
  if h : isBelow i then
    VecWindow.put y9 (k0_off2 i) S48x512.size (k0_pay1 (k0_pay10 x0 zst) (View.ld (Val := Elt F) (e' := .f32) y9 (Rect.unit (s := S48x18944) (k0_off2 i) S48x512.size (k0_off2_inb i h))))
  else VecWindow.put y9 (k0_off1 i) S48x512.size (k0_pay10 x0 zst)

/-! ## Whole-buffer loads and stores -/

section whole

variable {Val : EltTy → Type} {σ' : RefSig} {κ : Kind} {sp : Space} {S : Shape} {e : EltTy}

/-- A load of the whole buffer is its contents. -/
theorem readAt_whole (v : View σ' κ sp S e) (f : v.ty.Contents Val) {off : Fin S.rank → ℕ} (inb : ∀ a, off a + S.size a ≤ S.size a) :
    v.readAt Val (Rect.unit off (no_index S.size) inb).toLoadRect f = v.read Val f := View.readAt_full v f inb

/-- After a store of the whole buffer, its contents are what was stored. -/
theorem read_stored (v : View σ' κ sp S e) (f : v.ty.Contents Val) {off : Fin S.rank → ℕ} (inb : ∀ a, off a + S.size a ≤ S.size a)
    (w : (Rect.unit off S.size inb).shape.Idx → Val e) (L : List (View.Piece Val S e)) :
    v.read Val (v.writes Val f ((⟨Rect.unit off (no_index S.size) inb, w⟩ : View.Piece Val S e) :: L)) = w := View.read_writes_full v f inb w L

/-- A load of the whole buffer after a store of the whole buffer is what was stored. -/
theorem readAt_stored (v : View σ' κ sp S e) (f : v.ty.Contents Val) {off off' : Fin S.rank → ℕ} (inb : ∀ a, off a + S.size a ≤ S.size a)
    (inb' : ∀ a, off' a + S.size a ≤ S.size a) (w : (Rect.unit off' S.size inb').shape.Idx → Val e) (L : List (View.Piece Val S e)) :
    v.readAt Val (Rect.unit off (no_index S.size) inb).toLoadRect (v.writes Val f ((⟨Rect.unit off' (no_index S.size) inb', w⟩ : View.Piece Val S e) :: L)) = w :=
  View.readAt_writes_full v f inb inb' w L

/-- The same where the load is stated over the stores alone. -/
theorem readCov_stored [∀ e, Nonempty (Val e)] (v : View σ' κ sp S e) {off off' : Fin S.rank → ℕ} (inb : ∀ a, off a + S.size a ≤ S.size a)
    (inb' : ∀ a, off' a + S.size a ≤ S.size a) (w : (Rect.unit off' S.size inb').shape.Idx → Val e) (L : List (View.Piece Val S e)) :
    v.readCov ((⟨Rect.unit off' (no_index S.size) inb', w⟩ : View.Piece Val S e) :: L) (Rect.unit off (no_index S.size) inb).toLoadRect = w :=
  View.readCov_full v inb inb' w L

end whole

/-! ## The body's triple -/

set_option maxHeartbeats 2000000 in
/-- From any contents of the inputs, outputs and scratch, on whole buffers, the body runs and leaves the inputs as they were and every
    other buffer at the contents named above. -/
theorem body_run (c : Dev nD) (i : grid0.Coords) (arg2 : Memref sig .tc .vmem S1024x512 .fp8e5m2) (harg2 : arg2.IsWhole) (arg3 : Memref sig .tc .vmem S1x1x1024 .f32) (harg3 : arg3.IsWhole) (arg4 : Memref sig .tc .vmem S1024x48 .fp8e4m3) (harg4 : arg4.IsWhole) (arg5 : Memref sig .tc .vmem S1x1x1024 .f32) (harg5 : arg5.IsWhole) (arg6 : Memref sig .tc .vmem S3584x512 .fp8e4m3) (harg6 : arg6.IsWhole) (arg7 : Memref sig .tc .vmem S1x3584 .f32) (harg7 : arg7.IsWhole) (arg8 : Memref sig .tc .vmem S3584x48 .bf16) (harg8 : arg8.IsWhole) (arg9 : Memref sig .tc .vmem S48x512 .bf16) (harg9 : arg9.IsWhole) (arg10 : Memref sig .tc .vmem S1024x3584 .bf16) (harg10 : arg10.IsWhole) (arg11 : Memref sig .tc .vmem S48x18944 .f32) (harg11 : arg11.IsWhole) (arg12 : Memref sig .tc .vmem S1024x48 .bf16) (harg12 : arg12.IsWhole) (arg13 : Memref sig .tc .vmem S1024x3584 .f32) (harg13 : arg13.IsWhole) (arg14 : Memref sig .tc .vmem S48x1024 .f32) (harg14 : arg14.IsWhole) (arg15 : Memref sig .tc .vmem S48x1024 .bf16) (harg15 : arg15.IsWhole)
    (hx : isBelow i ↔ ¬ isTop i) (hk : isFirst i → ¬ isLast i)
    (x0 : Vec F S1024x512 .fp8e5m2) (x1 : Vec F S1x1x1024 .f32) (x2 : Vec F S1024x48 .fp8e4m3) (x3 : Vec F S1x1x1024 .f32) (x4 : Vec F S3584x512 .fp8e4m3) (x5 : Vec F S1x3584 .f32) (x6 : Vec F S3584x48 .bf16) (x7 : Vec F S48x512 .bf16) (y8 : Vec F S1024x3584 .bf16) (y9 : Vec F S48x18944 .f32) (y10 : Vec F S1024x48 .bf16) (acc : Vec F S1024x3584 .f32) (dht : Vec F S48x1024 .f32) (zst : Vec F S48x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ owns (c : Thread nD τ) arg11 fullShare y9 ∗ owns (c : Thread nD τ) arg12 fullShare y10 ∗ owns (c : Thread nD τ) arg13 fullShare acc ∗ owns (c : Thread nD τ) arg14 fullShare dht ∗ owns (c : Thread nD τ) arg15 fullShare zst
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (dxAt i x1 x5 x6 (accAt i x0 x4 acc) (dhtAt i x0 x7 dht) y8) ∗ owns (c : Thread nD τ) arg11 fullShare (dbAt i x0 (zstAt i x1 x2 x3 zst) y9) ∗ owns (c : Thread nD τ) arg12 fullShare (dhAt i x1 (dhtAt i x0 x7 dht) y10) ∗ owns (c : Thread nD τ) arg13 fullShare (accAt i x0 x4 acc) ∗ owns (c : Thread nD τ) arg14 fullShare (dhtAt i x0 x7 dht) ∗ owns (c : Thread nD τ) arg15 fullShare (zstAt i x1 x2 x3 zst)) -∗ K ⟨⟩))
      ⊢ wp frame (wpE (defs₀ (F := F)) Variants.none c none) E (cc0_lora_fa_backward i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_lora_fa_backward_eq_skeleton]; unfold cc0_lora_fa_backward_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  by_cases hc0 : isFirst i <;> by_cases hc3 : isLast i <;> by_cases hc1 : isTop i
  all_goals first | exact absurd hc3 (hk hc0) | skip
  all_goals first | (have hc2 : ¬ isBelow i := fun h => hx.mp h hc1) | (have hc2 : isBelow i := hx.mpr hc1)
  all_goals
    sl_exec (disch := first | sl_exact hc0 | sl_exact hc1 | sl_exact hc2 | sl_exact hc3)
    sl_step
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H3]
    · iexists _; isplitr; swap; · iexact H3
      ipureintro; exact harg5.read_unread _
    isplitl [H4]
    · iexists _; isplitr; swap; · iexact H4
      ipureintro; exact harg6.read_unread _
    isplitl [H5]
    · iexists _; isplitr; swap; · iexact H5
      ipureintro; exact harg7.read_unread _
    isplitl [H6]
    · iexists _; isplitr; swap; · iexact H6
      ipureintro; exact harg8.read_unread _
    isplitl [H7]
    · iexists _; isplitr; swap; · iexact H7
      ipureintro; exact harg9.read_unread _
    isplitl [H8]
    · iexists _; isplitr; swap; · iexact H8
      ipureintro; try sl_unfold_run_names
      simp only [dxAt, dhtAt, accAt]
      first | simp only [if_pos hc0] | simp only [if_neg hc0] | skip
      first | simp only [if_pos hc3] | simp only [if_neg hc3]
      simp only [readAt_whole, readAt_stored, readCov_stored, read_stored, Memref.IsWhole.read_unread]
    isplitl [H9]
    · iexists _; isplitr; swap; · iexact H9
      ipureintro; try sl_unfold_run_names
      simp only [dbAt, zstAt]
      first | simp only [if_pos hc0] | simp only [if_neg hc0] | skip
      first | simp only [dif_pos hc2] | simp only [dif_neg hc2]
      simp only [readAt_whole, readAt_stored, readCov_stored, read_stored, Memref.IsWhole.read_unread]
      first
        | rfl
        | (refine (View.read_writes_cons_put _ _ _ _ [] rfl).trans ?_
           simp only [View.readAt_eq_ld, View.writes, Memref.IsWhole.read_unread])
    isplitl [H10]
    · iexists _; isplitr; swap; · iexact H10
      ipureintro; try sl_unfold_run_names
      simp only [dhAt, dhtAt]
      first | simp only [if_pos hc0] | simp only [if_neg hc0] | skip
      first | simp only [if_pos hc3] | simp only [if_neg hc3]
      simp only [readAt_whole, readAt_stored, readCov_stored, read_stored, Memref.IsWhole.read_unread]
    isplitl [H11]
    · iexists _; isplitr; swap; · iexact H11
      ipureintro; try sl_unfold_run_names
      simp only [accAt]
      first | simp only [if_pos hc0] | simp only [if_neg hc0] | skip
      simp only [readAt_whole, readAt_stored, readCov_stored, read_stored, Memref.IsWhole.read_unread]
    isplitl [H12]
    · iexists _; isplitr; swap; · iexact H12
      ipureintro; try sl_unfold_run_names
      simp only [dhtAt]
      first | simp only [if_pos hc0] | simp only [if_neg hc0] | skip
      simp only [readAt_whole, readAt_stored, readCov_stored, read_stored, Memref.IsWhole.read_unread]
    · iexists _; isplitr; swap; · iexact H13
      ipureintro; try sl_unfold_run_names
      simp only [zstAt]
      first | simp only [if_pos hc0] | simp only [if_neg hc0] | skip
      simp only [readAt_whole, readAt_stored, readCov_stored, read_stored, Memref.IsWhole.read_unread]

end Cert.KernelIdeal.Val

end
-- ==== Proof.Run.lean ====
/-
  The kernel's run: what its buffers carry from one grid point to the next, the body's obligation over that, and the launch — every
  execution ends with the arguments unchanged, and with each result made of blocks the body may leave.
-/
module

public import proofs.«01_k».proof.Proof.Body
public import Idealize.ShloMosaic.Lib.Pipeline.ArrRel

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RDat cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at a point -/

abbrev ms0 (t : Fin cfg0.N) : Memref sig .tc .vmem S1024x512 .fp8e5m2 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x48 .fp8e4m3 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S3584x512 .fp8e4m3 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x3584 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S3584x48 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S48x512 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x3584 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S48x18944 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1024x48 .bf16 := win0_10.stage (cfg0.slots t 10)
abbrev hs10 (t : Fin cfg0.N) : (ms10 t).IsWhole := hstage0_10 ((cfg0.slots t 10).cast nbuf0_10)
abbrev accM : Memref sig .tc .vmem S1024x3584 .f32 := Memref.whole cc0_scratch0
abbrev dhtM : Memref sig .tc .vmem S48x1024 .f32 := Memref.whole cc0_scratch1
abbrev zstM : Memref sig .tc .vmem S48x1024 .bf16 := Memref.whole cc0_scratch2

/-! ## What is carried from point to point -/

/-- The carried contents: the `dx` accumulator, the `dh` accumulator, the scaled transpose of the `z` block. -/
abbrev Carried (F : FTy → Type) : Type := Vec F S1024x3584 .f32 × Vec F S48x1024 .f32 × Vec F S48x1024 .bf16

/-- One point's step of the carried contents, over the point's input blocks. -/
def step (c : Dev nD) (t : Fin cfg0.N) (s : Carried F) : Carried F :=
  (accAt (grid0.coords t) (iblk m c 0 t) (iblk m c 4 t) s.1, dhtAt (grid0.coords t) (iblk m c 0 t) (iblk m c 7 t) s.2.1,
    zstAt (grid0.coords t) (iblk m c 1 t) (iblk m c 2 t) (iblk m c 3 t) s.2.2)

/-- At the first column block of a row block the step forgets what it was given. -/
theorem step_first (c : Dev nD) (t : Fin cfg0.N) (h : t.val % 37 = 0) (s s' : Carried F) : step m c t s = step m c t s' := by
  have h' := (isFirst_iff t).mpr h
  unfold step accAt dhtAt zstAt
  rw [if_pos h', if_pos h', if_pos h', if_pos h', if_pos h', if_pos h']

/-- The carried contents after point `n`. -/
def carried (c : Dev nD) : (n : ℕ) → n < cfg0.N → Carried F
  | 0, hn => step m c ⟨0, hn⟩ (k0_pay4, k0_pay5, k0_pay6 (iblk m c 2 ⟨0, hn⟩) (iblk m c 3 ⟨0, hn⟩) (iblk m c 1 ⟨0, hn⟩))
  | n + 1, hn => step m c ⟨n + 1, hn⟩ (carried c n (Nat.lt_of_succ_lt hn))

/-- At the first column block of a row block the carried contents are a step from anything. -/
theorem carried_first (c : Dev nD) (t : Fin cfg0.N) (h : t.val % 37 = 0) (s : Carried F) : carried m c t.val t.isLt = step m c t s := by
  obtain ⟨n, hn⟩ := t
  cases n with
  | zero => exact step_first m c _ h _ _
  | succ n => exact step_first m c _ h _ _

/-- What the scratch holds before point `n`: anything before the first, then the carried contents of the point before. -/
def PhiS (c : Dev nD) : (n : ℕ) → n ≤ cfg0.N → sProp 𝕄
  | 0, _ => Pipeline.ΦA spec0 c
  | n + 1, hn => iprop(iprop(owns (c : Thread nD τ) accM fullShare (carried m c n hn).1 ∗ owns (c : Thread nD τ) dhtM fullShare (carried m c n hn).2.1 ∗ owns (c : Thread nD τ) zstM fullShare (carried m c n hn).2.2) ∗ (∃ r, prngReg c r))

/-- The launch's scratch with the three buffers named: each at some contents. -/
theorem PhiA0_eq (c : Dev nD) :
    (Pipeline.ΦA spec0 c : sProp 𝕄)
      = iprop(iprop((∃ d, owns (c : Thread nD τ) accM fullShare d) ∗ (∃ d, owns (c : Thread nD τ) dhtM fullShare d) ∗ (∃ d, owns (c : Thread nD τ) zstM fullShare d)) ∗ (∃ r, prngReg c r)) := by
  unfold Pipeline.ΦA; rw [scopedRest0_eq]; simp only [accM, dhtM, zstM, owns_whole]; try rfl

/-- Before a point the scratch is at some contents from which the point's step gives the carried contents. -/
theorem PhiS_open (c : Dev nD) (t : Fin cfg0.N) :
    PhiS m c t.val (Nat.le_of_lt t.isLt) ⊢ iprop(∃ s : Carried F, ⌜step m c t s = carried m c t.val t.isLt⌝ ∗ (owns (c : Thread nD τ) accM fullShare s.1 ∗ owns (c : Thread nD τ) dhtM fullShare s.2.1 ∗ owns (c : Thread nD τ) zstM fullShare s.2.2) ∗ (∃ r, prngReg c r)) := by
  obtain ⟨n, hn⟩ := t
  cases n with
  | zero =>
    show (Pipeline.ΦA spec0 c : sProp 𝕄) ⊢ _
    rw [PhiA0_eq]
    iintro ⟨⟨⟨%d0, H0⟩, ⟨%d1, H1⟩, ⟨%d2, H2⟩⟩, Hg⟩
    iexists ((d0, d1, d2) : Carried F)
    isplitr; · ipureintro; exact step_first m c _ rfl _ _
    isplitl [H0 H1 H2]
    · isplitl [H0]; · iexact H0
      isplitl [H1]; · iexact H1
      iexact H2
    iexact Hg
  | succ n =>
    show iprop(iprop(owns (c : Thread nD τ) accM fullShare (carried m c n _).1 ∗ owns (c : Thread nD τ) dhtM fullShare (carried m c n _).2.1 ∗ owns (c : Thread nD τ) zstM fullShare (carried m c n _).2.2) ∗ (∃ r, prngReg c r)) ⊢ _
    iintro ⟨⟨H0, H1, H2⟩, Hg⟩
    iexists (carried m c n (Nat.lt_of_succ_lt hn))
    isplitr; · ipureintro; rfl
    isplitl [H0 H1 H2]
    · isplitl [H0]; · iexact H0
      isplitl [H1]; · iexact H1
      iexact H2
    iexact Hg

/-- After a point the scratch is at the carried contents. -/
theorem PhiS_close (c : Dev nD) (t : Fin cfg0.N) (s : Carried F) (hs : step m c t s = carried m c t.val t.isLt) :
    iprop((owns (c : Thread nD τ) accM fullShare (accAt (grid0.coords t) (iblk m c 0 t) (iblk m c 4 t) s.1) ∗ owns (c : Thread nD τ) dhtM fullShare (dhtAt (grid0.coords t) (iblk m c 0 t) (iblk m c 7 t) s.2.1) ∗ owns (c : Thread nD τ) zstM fullShare (zstAt (grid0.coords t) (iblk m c 1 t) (iblk m c 2 t) (iblk m c 3 t) s.2.2)) ∗ (∃ r, prngReg c r))
      ⊢ PhiS m c (t.val + 1) t.isLt := by
  show _ ⊢ iprop(iprop(owns (c : Thread nD τ) accM fullShare (carried m c t.val t.isLt).1 ∗ owns (c : Thread nD τ) dhtM fullShare (carried m c t.val t.isLt).2.1 ∗ owns (c : Thread nD τ) zstM fullShare (carried m c t.val t.isLt).2.2) ∗ (∃ r, prngReg c r))
  rw [← hs]; exact .rfl

/-! ## The proof data -/

/-- What the body may leave in each window at a point, given what it found: an input as found; `dx` and `dh` from the carried
    accumulators at the last column block and as found before it; `db` with this point's columns updated. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => X = dxAt (grid0.coords t) (iblk m c 1 t) (iblk m c 5 t) (iblk m c 6 t) (carried m c t.val t.isLt).1 (carried m c t.val t.isLt).2.1 Y
    | ⟨9, _⟩ => fun Y X => X = dbAt (grid0.coords t) (iblk m c 0 t) (carried m c t.val t.isLt).2.2 Y
    | ⟨10, _⟩ => fun Y X => X = dhAt (grid0.coords t) (iblk m c 1 t) (carried m c t.val t.isLt).2.1 Y
  Φ t := PhiS m c t.val (Nat.le_of_lt_succ t.isLt)
  q _ := fullShare
  owed _ := 0

/-- The arrays start at what the region finds. -/
theorem A_eq (c : Dev nD) (w : Fin cfg0.W) : (rdat m c).A w = V m c (Pipeline.arrRef spec0 w) := by
  dsimp only [rdat]

/-! Each input's buffer holds its block at every point. -/
theorem finds0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  rfl
theorem finds1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  rfl
theorem finds2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  rfl
theorem finds3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  rfl
theorem finds4 (c : Dev nD) (t : Fin cfg0.N) (Y) (h : (rdat m c).Finds 4 t Y) : Y = iblk m c 4 t := by
  obtain ⟨d, rfl⟩ := (rdat m c).finds_in_eq_fetched 4 rfl (fun _ _ _ => rfl) (fun _ _ _ h => h) t Y h
  rfl
theorem finds5 (c : Dev nD) (t : Fin cfg0.N) (Y) (h : (rdat m c).Finds 5 t Y) : Y = iblk m c 5 t := by
  obtain ⟨d, rfl⟩ := (rdat m c).finds_in_eq_fetched 5 rfl (fun _ _ _ => rfl) (fun _ _ _ h => h) t Y h
  rfl
theorem finds6 (c : Dev nD) (t : Fin cfg0.N) (Y) (h : (rdat m c).Finds 6 t Y) : Y = iblk m c 6 t := by
  obtain ⟨d, rfl⟩ := (rdat m c).finds_in_eq_fetched 6 rfl (fun _ _ _ => rfl) (fun _ _ _ h => h) t Y h
  rfl
theorem finds7 (c : Dev nD) (t : Fin cfg0.N) (Y) (h : (rdat m c).Finds 7 t Y) : Y = iblk m c 7 t := by
  obtain ⟨d, rfl⟩ := (rdat m c).finds_in_eq_fetched 7 rfl (fun _ _ _ => rfl) (fun _ _ _ h => h) t Y h
  rfl

/-! What the body's triple leaves in each output is what the data allow. -/
theorem after8 (c : Dev nD) (t : Fin cfg0.N) (s : Carried F) (hs : step m c t s = carried m c t.val t.isLt) (Y) :
    (rdat m c).after 8 t Y (dxAt (grid0.coords t) (iblk m c 1 t) (iblk m c 5 t) (iblk m c 6 t) (accAt (grid0.coords t) (iblk m c 0 t) (iblk m c 4 t) s.1) (dhtAt (grid0.coords t) (iblk m c 0 t) (iblk m c 7 t) s.2.1) Y) := by
  show _ = dxAt _ _ _ _ _ _ _
  rw [← hs]; rfl
theorem after9 (c : Dev nD) (t : Fin cfg0.N) (s : Carried F) (hs : step m c t s = carried m c t.val t.isLt) (Y) :
    (rdat m c).after 9 t Y (dbAt (grid0.coords t) (iblk m c 0 t) (zstAt (grid0.coords t) (iblk m c 1 t) (iblk m c 2 t) (iblk m c 3 t) s.2.2) Y) := by
  show _ = dbAt _ _ _ _
  rw [← hs]; rfl
theorem after10 (c : Dev nD) (t : Fin cfg0.N) (s : Carried F) (hs : step m c t s = carried m c t.val t.isLt) (Y) :
    (rdat m c).after 10 t Y (dhAt (grid0.coords t) (iblk m c 1 t) (dhtAt (grid0.coords t) (iblk m c 0 t) (iblk m c 7 t) s.2.1) Y) := by
  show _ = dhAt _ _ _ _
  rw [← hs]; rfl

/-! ## The body's obligation -/

set_option maxHeartbeats 2000000 in
/-- The body at any point, the windows one by one. -/
theorem sound_body (c : Dev nD) (t : Fin cfg0.N) (Y : (w : Fin cfg0.W) → (cfg0.win w).block.Idx → Elt F (cfg0.win w).elt) (hY : ∀ w, (rdat m c).Finds w t (Y w)) :
    iprop((rdat m c).Φ t.castSucc ∗ (rdat m c).owesAt () t.castSucc ∗ owns (c : Thread nD τ) (ms0 t) fullShare (Y 0) ∗ owns (c : Thread nD τ) (ms1 t) fullShare (Y 1) ∗ owns (c : Thread nD τ) (ms2 t) fullShare (Y 2) ∗ owns (c : Thread nD τ) (ms3 t) fullShare (Y 3) ∗ owns (c : Thread nD τ) (ms4 t) fullShare (Y 4) ∗ owns (c : Thread nD τ) (ms5 t) fullShare (Y 5) ∗ owns (c : Thread nD τ) (ms6 t) fullShare (Y 6) ∗ owns (c : Thread nD τ) (ms7 t) fullShare (Y 7) ∗ owns (c : Thread nD τ) (ms8 t) fullShare (Y 8) ∗ owns (c : Thread nD τ) (ms9 t) fullShare (Y 9) ∗ owns (c : Thread nD τ) (ms10 t) fullShare (Y 10))
      ⊢ wp frame (wpE (defs₀ (F := F)) Variants.none c none) Set.univ (bodyAt0 t) (fun _ => iprop((rdat m c).Φ t.succ ∗ (rdat m c).owesAt () t.succ ∗ (∃ X, ⌜(rdat m c).after 0 t (Y 0) X⌝ ∗ owns (c : Thread nD τ) (ms0 t) fullShare X) ∗ (∃ X, ⌜(rdat m c).after 1 t (Y 1) X⌝ ∗ owns (c : Thread nD τ) (ms1 t) fullShare X) ∗ (∃ X, ⌜(rdat m c).after 2 t (Y 2) X⌝ ∗ owns (c : Thread nD τ) (ms2 t) fullShare X) ∗ (∃ X, ⌜(rdat m c).after 3 t (Y 3) X⌝ ∗ owns (c : Thread nD τ) (ms3 t) fullShare X) ∗ (∃ X, ⌜(rdat m c).after 4 t (Y 4) X⌝ ∗ owns (c : Thread nD τ) (ms4 t) fullShare X) ∗ (∃ X, ⌜(rdat m c).after 5 t (Y 5) X⌝ ∗ owns (c : Thread nD τ) (ms5 t) fullShare X) ∗ (∃ X, ⌜(rdat m c).after 6 t (Y 6) X⌝ ∗ owns (c : Thread nD τ) (ms6 t) fullShare X) ∗ (∃ X, ⌜(rdat m c).after 7 t (Y 7) X⌝ ∗ owns (c : Thread nD τ) (ms7 t) fullShare X) ∗ (∃ X, ⌜(rdat m c).after 8 t (Y 8) X⌝ ∗ owns (c : Thread nD τ) (ms8 t) fullShare X) ∗ (∃ X, ⌜(rdat m c).after 9 t (Y 9) X⌝ ∗ owns (c : Thread nD τ) (ms9 t) fullShare X) ∗ (∃ X, ⌜(rdat m c).after 10 t (Y 10) X⌝ ∗ owns (c : Thread nD τ) (ms10 t) fullShare X))) := by
  unfold bodyAt0
  rw [show (rdat m c).owesAt () t.succ = (rdat m c).owesAt () t.castSucc from rfl]
  rw [show (rdat m c).Φ t.castSucc = PhiS m c t.val (Nat.le_of_lt t.isLt) from rfl, show (rdat m c).Φ t.succ = PhiS m c (t.val + 1) t.isLt from rfl]
  rw [finds0 m c t _ (hY 0), finds1 m c t _ (hY 1), finds2 m c t _ (hY 2), finds3 m c t _ (hY 3), finds4 m c t _ (hY 4), finds5 m c t _ (hY 5), finds6 m c t _ (hY 6), finds7 m c t _ (hY 7)]
  have hx : isBelow (grid0.coords t) ↔ ¬ isTop (grid0.coords t) := by rw [isBelow_iff, isTop_iff]; omega
  have hk : isFirst (grid0.coords t) → ¬ isLast (grid0.coords t) := by rw [isFirst_iff, isLast_iff]; omega
  refine BIBase.Entails.trans (sep_mono (PhiS_open m c t) .rfl) ?_
  iintro ⟨⟨%s, %hs, ⟨HS0, HS1, HS2⟩, Hg⟩, Ho, H0, H1, H2, H3, H4, H5, H6, H7, H8, H9, H10⟩
  iapply (body_run c (grid0.coords t) _ _ _ _ _ _ _ _ _ _ _ _ _ _ _ _ _ _ _ _ _ _ _ _ _ _ _ _ hx hk (iblk m c 0 t) (iblk m c 1 t) (iblk m c 2 t) (iblk m c 3 t) (iblk m c 4 t) (iblk m c 5 t) (iblk m c 6 t) (iblk m c 7 t) (Y 8) (Y 9) (Y 10) s.1 s.2.1 s.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  iintro ⟨H0, H1, H2, H3, H4, H5, H6, H7, H8, H9, H10, HS0, HS1, HS2⟩
  isplitl [HS0 HS1 HS2 Hg]
  · iapply (PhiS_close m c t s hs)
    isplitl [HS0 HS1 HS2]
    · isplitl [HS0]; · iexact HS0
      isplitl [HS1]; · iexact HS1
      iexact HS2
    iexact Hg
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; exact after8 m c t s hs _
  isplitl [H9]
  · iexists _; isplitr; swap; · iexact H9
    ipureintro; exact after9 m c t s hs _
  · iexists _; isplitr; swap; · iexact H10
    ipureintro; exact after10 m c t s hs _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : (rdat (F := F) m c).BodyObligation (defs₀ (F := F)) Variants.none () Set.univ := fun t Y hY => by
  rw [bigSep_W0, bigSep_W0, defs₀_row]
  exact triple_restated (sound_body m c t Y hY) rfl .rfl fun _ => .rfl

/-- What the launch hands the region is the invariant before the first point. -/
theorem hin (c : Dev nD) : Pipeline.ΦA spec0 c ⊢ (rdat m c).Φ 0 := Entails.refl _

/-- After the last point the invariant gives the scratch back. -/
theorem hout (c : Dev nD) : (rdat m c).Φ (Fin.last cfg0.N) ⊢ Pipeline.ΦA spec0 c := by
  have key : ∀ (n : ℕ) (h : n ≤ cfg0.N), n ≠ 0 → PhiS m c n h ⊢ Pipeline.ΦA spec0 c := by
    intro n h hz
    cases n with
    | zero => exact absurd rfl hz
    | succ n =>
      rw [PhiA0_eq]
      show iprop(iprop(owns (c : Thread nD τ) accM fullShare (carried m c n _).1 ∗ owns (c : Thread nD τ) dhtM fullShare (carried m c n _).2.1 ∗ owns (c : Thread nD τ) zstM fullShare (carried m c n _).2.2) ∗ (∃ r, prngReg c r)) ⊢ _
      iintro ⟨⟨HS0, HS1, HS2⟩, Hg⟩
      isplitl [HS0 HS1 HS2]
      · isplitl [HS0]; · iexists _; iexact HS0
        isplitl [HS1]; · iexists _; iexact HS1
        iexists _; iexact HS2
      iexact Hg
  exact key cfg0.N le_rfl (by rw [show cfg0.N = 592 from N_0]; decide)

/-! ## The run and the frame -/

set_option backward.isDefEq.respectTransparency.types false in
/-- The launch: every execution ends with each array at contents the data allow and every semaphore counter at zero. -/
theorem run_quiescent : θ_run defs (onTc (τ := τ) (main (F := F))) (s₀ m ρ) (fun r => (Pipeline.RDat.FramePost (cfgs 0) (fun c => rdat m c) (V m)) r ∧ r.2.sem = fun _ => 0) :=
  Pipeline.RDat.θ_run_frame_track (Q' := _) cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := A_eq m) (hin := hin m) (hout := hout m)

/-- The argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (Pipeline.RDat.FramePost.arr_in h.1 c 4 rfl).trans ((A_eq m c 4).trans (V_main_arg4 m c)),
      ((h.1 c).2 main_arg5 (Pipeline.mem_restRefs_of main_arg5 (by decide) (by decide))).trans (V_main_arg5 m c),
      (Pipeline.RDat.FramePost.arr_in h.1 c 6 rfl).trans ((A_eq m c 6).trans (V_main_arg6 m c)),
      (Pipeline.RDat.FramePost.arr_in h.1 c 7 rfl).trans ((A_eq m c 7).trans (V_main_arg7 m c))⟩, h.2⟩) (run_quiescent m ρ)

end Cert.KernelIdeal.Val

end
-- ==== Proof.Spec.lean ====
/-
  The mathematics both programs compute, over extended reals: the three gradients of a linear layer whose weight carries a low-rank
  correction, of the gradient codes `dy` with one scale per token, the saved activations `z` with one scale per token, the weight codes `w`
  with one scale per output channel, and the two factors `a` and `b`.
-/
module

public import proofs.«01_k».proof.Proof.Gen.KernelIdeal.Frame
public import Idealize.ShloMosaic.Lib.Pipeline.ValueKit
public import Idealize.ShloMosaic.Lib.Claim

@[expose] public section

set_option maxRecDepth 16384

noncomputable section

namespace Cert.Spec

open Cert.KernelIdeal
open Idealize.ShloMosaic

/-- One scale per token, in a column. -/
abbrev Col : Shape := ⟨2, ![16384, 1]⟩

/-- The low-rank gradient of a token: its gradient against `b`'s rows, times the token's scale, times two. -/
def dh (dy : FVec Ideal S16384x18944 .fp8e5m2) (ds : FVec Ideal Col .f32) (b : FVec Ideal S48x18944 .bf16)
    (i : Fin 16384) (r : Fin 48) : EReal :=
  (∑ o : Fin 18944, dy (ix2 i o) * b (ix2 r o)) * ds (ix2 i 0) * 2

/-- The gradient of the layer's input: the scaled product with the weight codes, plus the low-rank gradient against `a`. -/
def dx (dy : FVec Ideal S16384x18944 .fp8e5m2) (ds : FVec Ideal Col .f32) (w : FVec Ideal S3584x18944 .fp8e4m3)
    (ws : FVec Ideal S1x3584 .f32) (a : FVec Ideal S3584x48 .bf16) (b : FVec Ideal S48x18944 .bf16)
    (i : Fin 16384) (d : Fin 3584) : EReal :=
  (∑ o : Fin 18944, dy (ix2 i o) * w (ix2 d o)) * ds (ix2 i 0) * ws (ix2 0 d)
    + ∑ r : Fin 48, dh dy ds b i r * a (ix2 d r)

/-- The gradient of `b`: twice the sum over the tokens of scaled activation times scaled gradient. -/
def db (dy : FVec Ideal S16384x18944 .fp8e5m2) (ds : FVec Ideal Col .f32) (z : FVec Ideal S16384x48 .fp8e4m3)
    (zs : FVec Ideal Col .f32) (r : Fin 48) (o : Fin 18944) : EReal :=
  2 * ∑ i : Fin 16384, (z (ix2 i r) * zs (ix2 i 0)) * (dy (ix2 i o) * ds (ix2 i 0))

/-- Twice a finite sum of extended reals is the sum of the doubles. -/
theorem two_mul_sum {ι : Type} (s : Finset ι) (f : ι → EReal) : 2 * ∑ i ∈ s, f i = ∑ i ∈ s, 2 * f i := by
  classical
  induction s using Finset.induction_on with
  | empty => simp
  | insert a s ha ih =>
    rw [Finset.sum_insert ha, Finset.sum_insert ha, EReal.left_distrib_of_nonneg_of_ne_top (by norm_num) (by decide), ih]

/-- The bit pattern of the constant the programs scale by denotes two. -/
theorem two_f32 : Ideal.ofBits .f32 0x40000000#32 = 2 := by
  rw [show (2 : EReal) = ((2 : ℝ) : EReal) by norm_cast]
  simp [Ideal.ofBits, Ideal.ieee, -EReal.coe_mul]; norm_num

end Cert.Spec

end
-- ==== Proof.KVal.lean ====
/-
  The kernel's three result arrays: what the accumulators hold after each grid point, and each array as its gradient's mathematics.
-/
module

public import proofs.«01_k».proof.Proof.Run
public import proofs.«01_k».proof.Proof.Spec

@[expose] public section

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.Pipeline (Dat RDat)

variable (m : (ℓ : Loc nD τ sig) → Buf (Elt Ideal) ℓ)

/-! ## What the body computes, at an index -/

/-- The zero fill of the input-gradient accumulator. -/
theorem pay4_at (j : S1024x3584.Idx) : k0_pay4 (F := Ideal) j = 0 := by pointwise [k0_pay4]

/-- The zero fill of the low-rank accumulator. -/
theorem pay5_at (j : S48x1024.Idx) : k0_pay5 (F := Ideal) j = 0 := by pointwise [k0_pay5]

/-- The input-gradient accumulator gains a block's product with the weight codes. -/
theorem pay8_at (dy : FVec Ideal S1024x512 .fp8e5m2) (acc : FVec Ideal S1024x3584 .f32) (w : FVec Ideal S3584x512 .fp8e4m3) (j : S1024x3584.Idx) :
    k0_pay8 (F := Ideal) dy acc w j = acc j + ∑ o : Fin 512, dy (ix2 (j 0) o) * w (ix2 (j 1) o) := by
  pointwise [k0_pay8, k0_pay7]

/-- The low-rank accumulator gains a block's product with `b`. -/
theorem pay9_at (dy : FVec Ideal S1024x512 .fp8e5m2) (acc : FVec Ideal S48x1024 .f32) (b : FVec Ideal S48x512 .bf16) (j : S48x1024.Idx) :
    k0_pay9 (F := Ideal) dy acc b j = acc j + ∑ o : Fin 512, b (ix2 (j 0) o) * dy (ix2 (j 1) o) := by
  pointwise [k0_pay9, k0_pay7]

/-- The scaled transpose of the `z` block. -/
theorem pay6_at (z : FVec Ideal S1024x48 .fp8e4m3) (zs ds : FVec Ideal S1x1x1024 .f32) (j : S48x1024.Idx) :
    k0_pay6 (F := Ideal) z zs ds j = z (ix2 (j 1) (j 0)) * (zs (ix3 0 0 (j 1)) * ds (ix3 0 0 (j 1))) := by
  pointwise [k0_pay6]

/-- A point's part of the gradient of `b`. -/
theorem pay10_at (dy : FVec Ideal S1024x512 .fp8e5m2) (zst : FVec Ideal S48x1024 .bf16) (j : S48x512.Idx) :
    k0_pay10 (F := Ideal) dy zst j = 2 * ∑ s : Fin 1024, zst (ix2 (j 0) s) * dy (ix2 s (j 1)) := by
  rw [← Spec.two_f32]
  pointwise [k0_pay10, k0_pay7]

/-- The part added to what the columns held. -/
theorem pay1_at (p old : FVec Ideal S48x512 .f32) (j : S48x512.Idx) : k0_pay1 (F := Ideal) p old j = old j + p j := by
  pointwise [k0_pay1]

/-- The low-rank gradient stored. -/
theorem pay2_at (dht : FVec Ideal S48x1024 .f32) (ds : FVec Ideal S1x1x1024 .f32) (j : S1024x48.Idx) :
    k0_pay2 (F := Ideal) dht ds j = dht (ix2 (j 1) (j 0)) * ds (ix3 0 0 (j 0)) * 2 := by
  rw [← Spec.two_f32]
  pointwise [k0_pay2]

/-- The input gradient stored. -/
theorem pay3_at (dht : FVec Ideal S48x1024 .f32) (ds : FVec Ideal S1x1x1024 .f32) (a : FVec Ideal S3584x48 .bf16)
    (acc : FVec Ideal S1024x3584 .f32) (ws : FVec Ideal S1x3584 .f32) (j : S1024x3584.Idx) :
    k0_pay3 (F := Ideal) dht ds a ds acc ws j = acc j * ds (ix3 0 0 (j 0)) * ws (ix2 0 (j 1))
      + ∑ r : Fin 48, dht (ix2 r (j 0)) * ds (ix3 0 0 (j 0)) * 2 * a (ix2 (j 1) r) := by
  rw [← Spec.two_f32]
  pointwise [k0_pay3, k0_pay2]

/-! ## Where the blocks lie -/

/-- Each window's block at a point: the row block is the point's number over 37, the column block its remainder. -/
theorem idx : ∀ t : Fin cfg0.N, win0_0.index t = ![t.val / 37, t.val % 37] ∧ win0_1.index t = ![t.val / 37, 0, 0]
    ∧ win0_2.index t = ![t.val / 37, 0] ∧ win0_3.index t = ![t.val / 37, 0, 0] ∧ win0_4.index t = ![0, t.val % 37]
    ∧ win0_5.index t = ![0, 0] ∧ win0_6.index t = ![0, 0] ∧ win0_7.index t = ![0, t.val % 37] ∧ win0_8.index t = ![t.val / 37, 0]
    ∧ win0_9.index t = ![0, 0] ∧ win0_10.index t = ![t.val / 37, 0] ∧ t.val < 592 :=
  (by decide +kernel : ∀ t : Fin grid0.N, _)

/-- The column block's number is the second grid coordinate. -/
theorem coords1 : ∀ t : Fin cfg0.N, (grid0.coords t 1).val = t.val % 37 := (by decide +kernel : ∀ t : Fin grid0.N, _)

/-- One scale per token, as the kernel is given them (sixteen rows of 1024), in a column. -/
def col (x : FVec Ideal S16x1x1024 .f32) : FVec Ideal Spec.Col .f32 :=
  fun j => x (ix3 ⟨(j 0).val / 1024, by have : (j 0).val < 16384 := (j 0).isLt; omega⟩ 0 ⟨(j 0).val % 1024, by omega⟩)

/-! The arrays the region is given, at their types. -/
abbrev dyA (c : Dev nD) : FVec Ideal S16384x18944 .fp8e5m2 := V m c main_v0
abbrev dsA (c : Dev nD) : FVec Ideal S16x1x1024 .f32 := V m c main_v2
abbrev zA (c : Dev nD) : FVec Ideal S16384x48 .fp8e4m3 := V m c main_v1
abbrev zsA (c : Dev nD) : FVec Ideal S16x1x1024 .f32 := V m c main_v3
abbrev wA (c : Dev nD) : FVec Ideal S3584x18944 .fp8e4m3 := V m c main_arg4
abbrev wsA (c : Dev nD) : FVec Ideal S1x3584 .f32 := V m c main_v4
abbrev aA (c : Dev nD) : FVec Ideal S3584x48 .bf16 := V m c main_arg6
abbrev bA (c : Dev nD) : FVec Ideal S48x18944 .bf16 := V m c main_arg7

/-! The input blocks, at their types. -/
abbrev dyB (c : Dev nD) (t : Fin cfg0.N) : FVec Ideal S1024x512 .fp8e5m2 := iblk m c 0 t
abbrev dsB (c : Dev nD) (t : Fin cfg0.N) : FVec Ideal S1x1x1024 .f32 := iblk m c 1 t
abbrev zB (c : Dev nD) (t : Fin cfg0.N) : FVec Ideal S1024x48 .fp8e4m3 := iblk m c 2 t
abbrev zsB (c : Dev nD) (t : Fin cfg0.N) : FVec Ideal S1x1x1024 .f32 := iblk m c 3 t
abbrev wB (c : Dev nD) (t : Fin cfg0.N) : FVec Ideal S3584x512 .fp8e4m3 := iblk m c 4 t
abbrev wsB (c : Dev nD) (t : Fin cfg0.N) : FVec Ideal S1x3584 .f32 := iblk m c 5 t
abbrev aB (c : Dev nD) (t : Fin cfg0.N) : FVec Ideal S3584x48 .bf16 := iblk m c 6 t
abbrev bB (c : Dev nD) (t : Fin cfg0.N) : FVec Ideal S48x512 .bf16 := iblk m c 7 t

/-- The token at place `s` of point `t`'s row block. -/
def row (t : Fin cfg0.N) (s : Fin 1024) : Fin 16384 :=
  ⟨t.val / 37 * 1024 + s.val, by have := (idx t).2.2.2.2.2.2.2.2.2.2.2; omega⟩

/-- The output channel at place `o` of point `t`'s column block. -/
def chan (t : Fin cfg0.N) (o : Fin 512) : Fin 18944 := ⟨t.val % 37 * 512 + o.val, by omega⟩

/-! Each block's element is its array's, at the block's tokens and channels. -/
theorem dyB_at (c : Dev nD) (t : Fin cfg0.N) (s : Fin 1024) (o : Fin 512) :
    dyB m c t (ix2 s o) = dyA m c (ix2 (row t s) (chan t o)) := by
  unfold dyB dyA row chan; blk_ext [iblk, idx t]
theorem dsB_at (c : Dev nD) (t : Fin cfg0.N) (s : Fin 1024) :
    dsB m c t (ix3 0 0 s) = col (dsA m c) (ix2 (row t s) 0) := by
  unfold dsB dsA row col; blk_ext [iblk, idx t]
theorem zB_at (c : Dev nD) (t : Fin cfg0.N) (s : Fin 1024) (r : Fin 48) :
    zB m c t (ix2 s r) = zA m c (ix2 (row t s) r) := by
  unfold zB zA row; blk_ext [iblk, idx t]
theorem zsB_at (c : Dev nD) (t : Fin cfg0.N) (s : Fin 1024) :
    zsB m c t (ix3 0 0 s) = col (zsA m c) (ix2 (row t s) 0) := by
  unfold zsB zsA row col; blk_ext [iblk, idx t]
theorem wB_at (c : Dev nD) (t : Fin cfg0.N) (d : Fin 3584) (o : Fin 512) :
    wB m c t (ix2 d o) = wA m c (ix2 d (chan t o)) := by
  unfold wB wA chan; blk_ext [iblk, idx t]
theorem wsB_at (c : Dev nD) (t : Fin cfg0.N) (d : Fin 3584) : wsB m c t (ix2 0 d) = wsA m c (ix2 0 d) := by
  unfold wsB wsA; blk_ext [iblk, idx t]
theorem aB_at (c : Dev nD) (t : Fin cfg0.N) (d : Fin 3584) (r : Fin 48) : aB m c t (ix2 d r) = aA m c (ix2 d r) := by
  unfold aB aA; blk_ext [iblk, idx t]
theorem bB_at (c : Dev nD) (t : Fin cfg0.N) (r : Fin 48) (o : Fin 512) :
    bB m c t (ix2 r o) = bA m c (ix2 r (chan t o)) := by
  unfold bB bA chan; blk_ext [iblk, idx t]

/-- The points of a row block share its tokens. -/
theorem row_run (t : Fin cfg0.N) (s : Fin 37) (h : 37 * (t.val / 37) + s.val < cfg0.N) : row ⟨37 * (t.val / 37) + s.val, h⟩ = row t := by
  funext y
  refine Fin.ext ?_
  show (37 * (t.val / 37) + s.val) / 37 * 1024 + y.val = t.val / 37 * 1024 + y.val
  omega

/-- The channels of the points of a row block, in order. -/
theorem chan_run (t : Fin cfg0.N) (s : Fin 37) (h : 37 * (t.val / 37) + s.val < cfg0.N) (o : Fin 512) (hl : s.val * 512 + o.val < 18944) :
    chan ⟨37 * (t.val / 37) + s.val, h⟩ o = ⟨s.val * 512 + o.val, hl⟩ := by
  refine Fin.ext ?_
  show (37 * (t.val / 37) + s.val) % 37 * 512 + o.val = s.val * 512 + o.val
  omega

/-! ## The accumulators -/

/-- Anything at all, for what a first column block's step forgets. -/
def anyCarried : Carried Ideal := (fun _ => 0, fun _ => 0, fun _ => 0)

/-- After the first point, the carried contents are a step from those of the point before. -/
theorem carried_pos (c : Dev nD) (t : Fin cfg0.N) (h : ¬t.val % 37 = 0) :
    carried m c t.val t.isLt = step m c t (carried m c (t.val - 1) (Nat.lt_of_le_of_lt (Nat.sub_le _ _) t.isLt)) := by
  obtain ⟨n, hn⟩ := t
  cases n with
  | zero => exact absurd rfl h
  | succ n => rfl

/-- At the last column block the input-gradient accumulator holds the product of the row block with the weight codes. -/
theorem acc_at (c : Dev nD) (t : Fin cfg0.N) (h : t.val % 37 = 36) (j : S1024x3584.Idx) :
    (carried m c t.val t.isLt).1 j = ∑ o : Fin 18944, dyA m c (ix2 (row t (j 0)) o) * wA m c (ix2 (j 1) o) := by
  refine (Pipeline.eq_sum_fin_of_reset_step_apply_of_flush (fun n h => ((carried m c n h).1 : S1024x3584.Idx → EReal)) 37 (fun _ => 0)
    (fun t j => ∑ o : Fin 512, dyB m c t (ix2 (j 0) o) * wB m c t (ix2 (j 1) o)) (fun t h j => ?_) (fun t h j => ?_) t h j).trans ?_
  · rw [carried_first m c t h anyCarried]
    show k0_pay8 _ (if isFirst (grid0.coords t) then k0_pay4 else _) _ j = _
    rw [if_pos ((isFirst_iff t).mpr h), pay8_at, pay4_at]
  · rw [carried_pos m c t h]
    show k0_pay8 _ (if isFirst (grid0.coords t) then k0_pay4 else _) _ j = _
    rw [if_neg fun h' => h ((isFirst_iff t).mp h'), pay8_at]
  · rw [zero_add]
    refine Fin.sum_mul_add_congr fun s k hl => ?_
    refine congrArg₂ (· * ·) ((dyB_at m c _ (j 0) k).trans ?_) ((wB_at m c _ (j 1) k).trans ?_)
    · rw [row_run, chan_run]
    · rw [chan_run]

/-- At the last column block the low-rank accumulator holds the product of `b` with the row block. -/
theorem dht_at (c : Dev nD) (t : Fin cfg0.N) (h : t.val % 37 = 36) (j : S48x1024.Idx) :
    (carried m c t.val t.isLt).2.1 j = ∑ o : Fin 18944, dyA m c (ix2 (row t (j 1)) o) * bA m c (ix2 (j 0) o) := by
  refine (Pipeline.eq_sum_fin_of_reset_step_apply_of_flush (fun n h => ((carried m c n h).2.1 : S48x1024.Idx → EReal)) 37 (fun _ => 0)
    (fun t j => ∑ o : Fin 512, bB m c t (ix2 (j 0) o) * dyB m c t (ix2 (j 1) o)) (fun t h j => ?_) (fun t h j => ?_) t h j).trans ?_
  · rw [carried_first m c t h anyCarried]
    show k0_pay9 _ (if isFirst (grid0.coords t) then k0_pay5 else _) _ j = _
    rw [if_pos ((isFirst_iff t).mpr h), pay9_at, pay5_at]
  · rw [carried_pos m c t h]
    show k0_pay9 _ (if isFirst (grid0.coords t) then k0_pay5 else _) _ j = _
    rw [if_neg fun h' => h ((isFirst_iff t).mp h'), pay9_at]
  · rw [zero_add]
    refine Fin.sum_mul_add_congr fun s k hl => ?_
    refine (mul_comm (_ : EReal) _).trans (congrArg₂ (· * ·) ((dyB_at m c _ (j 1) k).trans ?_) ((bB_at m c _ (j 0) k).trans ?_))
    · rw [row_run, chan_run]
    · rw [chan_run]

/-- The scaled transpose of the `z` block, as computed at the first column block. -/
theorem zst_first (c : Dev nD) (t : Fin cfg0.N) (h : t.val % 37 = 0) (j : S48x1024.Idx) :
    (step m c t anyCarried).2.2 j
      = zA m c (ix2 (row t (j 1)) (j 0)) * (col (zsA m c) (ix2 (row t (j 1)) 0) * col (dsA m c) (ix2 (row t (j 1)) 0)) := by
  show (if isFirst (grid0.coords t) then _ else _ : FVec Ideal S48x1024 .bf16) j = _
  rw [if_pos ((isFirst_iff _).mpr h), pay6_at]
  exact congrArg₂ (· * ·) (zB_at m c _ (j 1) (j 0)) (congrArg₂ (· * ·) (zsB_at m c _ (j 1)) (dsB_at m c _ (j 1)))

/-- The scaled transpose of the `z` block, at every point of the row block. -/
theorem zst_at (c : Dev nD) (t : Fin cfg0.N) (j : S48x1024.Idx) :
    (carried m c t.val t.isLt).2.2 j
      = zA m c (ix2 (row t (j 1)) (j 0)) * (col (zsA m c) (ix2 (row t (j 1)) 0) * col (dsA m c) (ix2 (row t (j 1)) 0)) := by
  obtain ⟨n, hn⟩ := t
  induction n with
  | zero =>
    rw [carried_first m c ⟨0, hn⟩ rfl anyCarried]
    exact zst_first m c ⟨0, hn⟩ rfl j
  | succ n ih =>
    by_cases h : (n + 1) % 37 = 0
    · rw [carried_first m c ⟨n + 1, hn⟩ h anyCarried]
      exact zst_first m c ⟨n + 1, hn⟩ h j
    · rw [carried_pos m c ⟨n + 1, hn⟩ h]
      show (if isFirst (grid0.coords ⟨n + 1, hn⟩) then _ else _ : FVec Ideal S48x1024 .bf16) j = _
      rw [if_neg fun h' => h ((isFirst_iff _).mp h')]
      refine (ih (Nat.lt_of_succ_lt hn)).trans ?_
      have e : row ⟨n, Nat.lt_of_succ_lt hn⟩ = row ⟨n + 1, hn⟩ := by
        funext y
        refine Fin.ext ?_
        show n / 37 * 1024 + y.val = (n + 1) / 37 * 1024 + y.val
        omega
      rw [e]

/-! ## The arrays of the two blocked gradients -/

/-- What the body leaves of the input gradient where it is written back. -/
theorem leaves8 (c : Dev nD) (t : Fin cfg0.N) (h : t.val % 37 = 36) (X : S1024x3584.Idx → EReal) (hX : (rdat m c).Leaves 8 t X) (y : S1024x3584.Idx) :
    X y = Spec.dx (dyA m c) (col (dsA m c)) (wA m c) (wsA m c) (aA m c) (bA m c) (row t (y 0)) (y 1) := by
  obtain ⟨Y, -, hX⟩ := hX
  have e : X = dxAt (grid0.coords t) (dsB m c t) (wsB m c t) (aB m c t) (carried m c t.val t.isLt).1 (carried m c t.val t.isLt).2.1 Y := hX
  rw [e]
  unfold dxAt Spec.dx Spec.dh
  rw [if_pos ((isLast_iff t).mpr h), pay3_at]
  refine congrArg₂ (· + ·) (congrArg₂ (· * ·) (congrArg₂ (· * ·) (acc_at m c t h y) (dsB_at m c t (y 0))) (wsB_at m c t (y 1)))
    (Finset.sum_congr rfl fun r _ => congrArg₂ (· * ·) (congrArg (· * 2) (congrArg₂ (· * ·) (dht_at m c t h (ix2 r (y 0))) (dsB_at m c t (y 0)))) (aB_at m c t (y 1) r))

/-- What the body leaves of the low-rank gradient where it is written back. -/
theorem leaves10 (c : Dev nD) (t : Fin cfg0.N) (h : t.val % 37 = 36) (X : S1024x48.Idx → EReal) (hX : (rdat m c).Leaves 10 t X) (y : S1024x48.Idx) :
    X y = Spec.dh (dyA m c) (col (dsA m c)) (bA m c) (row t (y 0)) (y 1) := by
  obtain ⟨Y, -, hX⟩ := hX
  have e : X = dhAt (grid0.coords t) (dsB m c t) (carried m c t.val t.isLt).2.1 Y := hX
  rw [e]
  unfold dhAt Spec.dh
  rw [if_pos ((isLast_iff t).mpr h), pay2_at]
  exact congrArg (· * 2) (congrArg₂ (· * ·) (dht_at m c t h (ix2 (y 1) (y 0))) (dsB_at m c t (y 0)))

/-- The input gradient's array, whatever the body left where it is written back. -/
theorem final8 (c : Dev nD) (after) (hL : ∀ t : Fin cfg0.N, (cfg0.win 8).flush t = true → (rdat m c).Leaves 8 t (after 8 t)) :
    ((rdat m c).withAfter after).arrAt 8 cfg0.N
      = fun j : S16384x3584.Idx => Spec.dx (dyA m c) (col (dsA m c)) (wA m c) (wsA m c) (aA m c) (bA m c) (j 0) (j 1) := by
  refine ((rdat m c).withAfter after).arrAt_eq_of_covers 8 _ (by decide +kernel) fun t hf y => ?_
  blk_simp
  have h := (flush0_8 t).mp hf
  refine (leaves8 m c t h _ (hL t hf) y).trans ?_
  refine congrArg₂ (Spec.dx _ _ _ _ _ _) ?_ ?_ <;> refine Fin.ext ?_ <;> blk_simp [row, idx t] <;> try omega

/-- The low-rank gradient's array, whatever the body left where it is written back. -/
theorem final10 (c : Dev nD) (after) (hL : ∀ t : Fin cfg0.N, (cfg0.win 10).flush t = true → (rdat m c).Leaves 10 t (after 10 t)) :
    ((rdat m c).withAfter after).arrAt 10 cfg0.N
      = fun j : S16384x48.Idx => Spec.dh (dyA m c) (col (dsA m c)) (bA m c) (j 0) (j 1) := by
  refine ((rdat m c).withAfter after).arrAt_eq_of_covers 10 _ (by decide +kernel) fun t hf y => ?_
  blk_simp
  have h := (flush0_10 t).mp hf
  refine (leaves10 m c t h _ (hL t hf) y).trans ?_
  refine congrArg₂ (Spec.dh _ _ _) ?_ ?_ <;> refine Fin.ext ?_ <;> blk_simp [row, idx t] <;> try omega

/-! ## The gradient of `b`, gathered over the row blocks -/

/-- A token's contribution to the gradient of `b`, before the doubling, as the kernel multiplies it. -/
def term (c : Dev nD) (r : Fin 48) (o : Fin 18944) (i : Fin 16384) : EReal :=
  zA m c (ix2 i r) * (col (zsA m c) (ix2 i 0) * col (dsA m c) (ix2 i 0)) * dyA m c (ix2 i o)

/-- A row block's contribution. -/
def part (c : Dev nD) (r : Fin 48) (o : Fin 18944) (n : ℕ) : EReal :=
  2 * ∑ s : Fin 1024, if h : n * 1024 + s.val < 16384 then term m c r o ⟨n * 1024 + s.val, h⟩ else 0

/-- Inside the window a put array holds what was put. -/
theorem put_in {x : S48x18944.Idx → EReal} {off : Fin 2 → ℕ} {w : S48x512.Idx → EReal} {k : ℕ} (hoff : off = ![0, 512 * k]) (r : Fin 48)
    (o : Fin 18944) (o' : Fin 512) (h : o.val = 512 * k + o'.val) :
    VecWindow.put (s := S48x18944) x off S48x512.size w (ix2 r o) = w (ix2 r o') := by
  subst hoff
  have hin : ∀ a : Fin 2, (![0, 512 * k] : Fin 2 → ℕ) a ≤ ((ix2 r o : S48x18944.Idx) a).val
      ∧ ((ix2 r o : S48x18944.Idx) a).val < (![0, 512 * k] : Fin 2 → ℕ) a + S48x512.size a := by
    intro a
    match a with
    | ⟨0, _⟩ => exact ⟨Nat.zero_le _, lt_of_lt_of_eq r.isLt (Nat.zero_add 48).symm⟩
    | ⟨1, _⟩ =>
      have := o'.isLt
      exact ⟨show 512 * k ≤ o.val by omega, show o.val < 512 * k + 512 by omega⟩
  refine (dif_pos hin).trans (congrArg w (funext fun a => Fin.ext ?_))
  match a with
  | ⟨0, _⟩ => exact Nat.sub_zero _
  | ⟨1, _⟩ => show o.val - 512 * k = o'.val; omega

/-- Outside the window a put array holds what it held. -/
theorem put_out {x : S48x18944.Idx → EReal} {off : Fin 2 → ℕ} {w : S48x512.Idx → EReal} {k : ℕ} (hoff : off = ![0, 512 * k]) (r : Fin 48)
    (o : Fin 18944) (h : o.val / 512 ≠ k) :
    VecWindow.put (s := S48x18944) x off S48x512.size w (ix2 r o) = x (ix2 r o) := by
  subst hoff
  refine dif_neg fun h' => h ?_
  have h1 : 512 * k ≤ o.val ∧ o.val < 512 * k + 512 := h' 1
  omega

/-- A load through the window. -/
theorem ld_at {x : S48x18944.Idx → EReal} {off : Fin 2 → ℕ} {k : ℕ} (hoff : off = ![0, 512 * k])
    (inb : ∀ a, off a + S48x512.size a ≤ S48x18944.size a) (r : Fin 48) (o : Fin 18944) (o' : Fin 512) (h : o.val = 512 * k + o'.val) :
    View.ld (Val := Elt Ideal) (e' := .f32) x (Rect.unit (s := S48x18944) off S48x512.size inb) (ix2 r o') = x (ix2 r o) := by
  subst hoff
  refine congrArg x (funext fun a => Fin.ext ?_)
  match a with
  | ⟨0, _⟩ => show 0 + 1 * r.val = r.val; omega
  | ⟨1, _⟩ => show 512 * k + 1 * o'.val = o.val; omega

/-- A point's product, as its row block's contribution. -/
theorem pay10_part (c : Dev nD) (t : Fin cfg0.N) (r : Fin 48) (o : Fin 18944) (o' : Fin 512) (h : o = chan t o') :
    k0_pay10 (F := Ideal) (dyB m c t) (carried m c t.val t.isLt).2.2 (ix2 r o') = part m c r o (t.val / 37) := by
  rw [pay10_at, part]
  refine congrArg (2 * ·) (Finset.sum_congr rfl fun s _ => ?_)
  have hl : t.val / 37 * 1024 + s.val < 16384 := (row t s).isLt
  rw [dif_pos hl]
  refine congrArg₂ (· * ·) (zst_at m c t (ix2 r s)) ((dyB_at m c t s o').trans ?_)
  rw [h]; rfl

/-- The columns a point does not reach are as they were. -/
theorem dbAt_out (c : Dev nD) (t : Fin cfg0.N) (Y : S48x18944.Idx → EReal) (r : Fin 48) (o : Fin 18944) (h : o.val / 512 ≠ t.val % 37) :
    dbAt (F := Ideal) (grid0.coords t) (dyB m c t) (carried m c t.val t.isLt).2.2 Y (ix2 r o) = Y (ix2 r o) := by
  unfold dbAt
  split
  · exact put_out (k0_off2_eq _) r o (by rw [coords1 t]; exact h)
  · exact put_out (k0_off1_eq _) r o (by rw [coords1 t]; exact h)

/-- In the first row block a point sets its columns to the row block's contribution. -/
theorem dbAt_top (c : Dev nD) (t : Fin cfg0.N) (Y : S48x18944.Idx → EReal) (r : Fin 48) (o : Fin 18944) (h : o.val / 512 = t.val % 37) (ht : t.val < 37) :
    dbAt (F := Ideal) (grid0.coords t) (dyB m c t) (carried m c t.val t.isLt).2.2 Y (ix2 r o) = part m c r o (t.val / 37) := by
  unfold dbAt
  rw [dif_neg fun hb => absurd ((isBelow_iff t).mp hb) (by omega)]
  refine (put_in (k0_off1_eq _) r o ⟨o.val % 512, by omega⟩ ?_).trans (pay10_part m c t r o _ (Fin.ext ?_))
  · rw [coords1 t]; show o.val = 512 * (t.val % 37) + o.val % 512; omega
  · show o.val = t.val % 37 * 512 + o.val % 512; omega

/-- In a later row block a point adds the row block's contribution to its columns. -/
theorem dbAt_below (c : Dev nD) (t : Fin cfg0.N) (Y : S48x18944.Idx → EReal) (r : Fin 48) (o : Fin 18944) (h : o.val / 512 = t.val % 37) (ht : 37 ≤ t.val) :
    dbAt (F := Ideal) (grid0.coords t) (dyB m c t) (carried m c t.val t.isLt).2.2 Y (ix2 r o) = Y (ix2 r o) + part m c r o (t.val / 37) := by
  unfold dbAt
  rw [dif_pos ((isBelow_iff t).mpr ht)]
  have h' : o.val = 512 * (grid0.coords t 1).val + o.val % 512 := by rw [coords1 t]; omega
  refine (put_in (k0_off2_eq _) r o ⟨o.val % 512, by omega⟩ h').trans ?_
  rw [pay1_at]
  refine congrArg₂ (· + ·) (ld_at (k0_off2_eq _) _ r o ⟨o.val % 512, by omega⟩ h') (pay10_part m c t r o _ (Fin.ext ?_))
  show o.val = t.val % 37 * 512 + o.val % 512; omega

/-- The body leaves the `b`-gradient array it found at a point with the point's columns updated, and after the first point it found what the
    point before left. -/
theorem leaves9_step (c : Dev nD) (t : Fin cfg0.N) (X : S48x18944.Idx → EReal) (hX : (rdat m c).Leaves 9 t X) :
    ∃ Y : S48x18944.Idx → EReal, (t.val ≠ 0 → (rdat m c).Leaves 9 ⟨t.val - 1, Nat.lt_of_le_of_lt (Nat.sub_le _ _) t.isLt⟩ Y)
      ∧ X = dbAt (F := Ideal) (grid0.coords t) (dyB m c t) (carried m c t.val t.isLt).2.2 Y := by
  obtain ⟨Y, hY, hX⟩ := hX
  refine ⟨Y, fun h0 => ?_, hX⟩
  rcases ((rdat m c).finds_of_pos (w := 9) (t := t) rfl h0 Y).mp hY with hf | hl
  · have h1 : (t.val - 1) % 592 = 591 := (flush0_9 _).mp hf
    have h2 : t.val < 592 := (idx t).2.2.2.2.2.2.2.2.2.2.2
    omega
  · exact hl

/-- What the `b`-gradient array holds after a point: the columns reached in this row block have the contributions of the row blocks up to
    it, the others those of the row blocks before it. -/
theorem leaves9_sum (c : Dev nD) (r : Fin 48) (o : Fin 18944) (n : ℕ) : ∀ (t : Fin cfg0.N), t.val = n →
    ∀ X : S48x18944.Idx → EReal, (rdat m c).Leaves 9 t X →
    (o.val / 512 ≤ t.val % 37 → X (ix2 r o) = ∑ k ∈ Finset.range (t.val / 37 + 1), part m c r o k)
      ∧ (t.val % 37 < o.val / 512 → 37 ≤ t.val → X (ix2 r o) = ∑ k ∈ Finset.range (t.val / 37), part m c r o k) := by
  induction n with
  | zero =>
    intro t ht X hX
    obtain ⟨Y, -, rfl⟩ := leaves9_step m c t X hX
    refine ⟨fun h => ?_, fun _ h => absurd h (by omega)⟩
    rw [dbAt_top m c t Y r o (by omega) (by omega), show t.val / 37 = 0 by omega, Finset.sum_range_one]
  | succ n ih =>
    intro t ht X hX
    obtain ⟨Y, hY, rfl⟩ := leaves9_step m c t X hX
    have hi := ih ⟨t.val - 1, Nat.lt_of_le_of_lt (Nat.sub_le _ _) t.isLt⟩ (by show t.val - 1 = n; omega) Y (hY (by omega))
    have ihl : o.val / 512 ≤ (t.val - 1) % 37 → Y (ix2 r o) = ∑ k ∈ Finset.range ((t.val - 1) / 37 + 1), part m c r o k := hi.1
    have ihr : (t.val - 1) % 37 < o.val / 512 → 37 ≤ t.val - 1 → Y (ix2 r o) = ∑ k ∈ Finset.range ((t.val - 1) / 37), part m c r o k := hi.2
    by_cases hk : o.val / 512 = t.val % 37
    · refine ⟨fun _ => ?_, fun h => absurd h (by omega)⟩
      by_cases h37 : 37 ≤ t.val
      · rw [dbAt_below m c t Y r o hk h37, Finset.sum_range_succ]
        refine congrArg (· + _) ?_
        by_cases h0 : t.val % 37 = 0
        · rw [ihl (by omega), show (t.val - 1) / 37 + 1 = t.val / 37 by omega]
        · rw [ihr (by omega) (by omega), show (t.val - 1) / 37 = t.val / 37 by omega]
      · rw [dbAt_top m c t Y r o hk (by omega), show t.val / 37 = 0 by omega, Finset.sum_range_one]
    · rw [dbAt_out m c t Y r o hk]
      refine ⟨fun h => ?_, fun h h37 => ?_⟩
      · rw [ihl (by omega), show (t.val - 1) / 37 = t.val / 37 by omega]
      · by_cases h0 : t.val % 37 = 0
        · rw [ihl (by omega), show (t.val - 1) / 37 + 1 = t.val / 37 by omega]
        · rw [ihr (by omega) (by omega), show (t.val - 1) / 37 = t.val / 37 by omega]

/-- The contributions of all the row blocks are the gradient of `b`. -/
theorem sum_part (c : Dev nD) (r : Fin 48) (o : Fin 18944) :
    ∑ k ∈ Finset.range 16, part m c r o k = Spec.db (dyA m c) (col (dsA m c)) (zA m c) (col (zsA m c)) r o := by
  unfold part Spec.db
  rw [← Spec.two_mul_sum, Finset.sum_range]
  refine congrArg (2 * ·) (Fin.sum_mul_add_congr fun k s hl => ?_)
  rw [dif_pos hl]
  unfold term
  generalize zA m c _ = a, col (zsA m c) _ = b, col (dsA m c) _ = d, dyA m c _ = e
  rw [mul_assoc a, mul_assoc a, mul_assoc b, mul_comm d e]

/-- The `b`-gradient's array, whatever the body left where it is written back. -/
theorem final9 (c : Dev nD) (after) (hL : ∀ t : Fin cfg0.N, (cfg0.win 9).flush t = true → (rdat m c).Leaves 9 t (after 9 t)) :
    ((rdat m c).withAfter after).arrAt 9 cfg0.N
      = fun j : S48x18944.Idx => Spec.db (dyA m c) (col (dsA m c)) (zA m c) (col (zsA m c)) (j 0) (j 1) := by
  refine ((rdat m c).withAfter after).arrAt_eq_of_covers 9 _ (by decide +kernel) fun t hf y => ?_
  blk_simp
  have h := (flush0_9 t).mp hf
  have ht := (idx t).2.2.2.2.2.2.2.2.2.2.2
  refine Eq.trans (b := after 9 t (ix2 (y 0) (y 1))) (congrArg (after 9 t) (ix2_eta y).symm) ?_
  have hy : (y 1).val < 18944 := (y 1).isLt
  refine (((leaves9_sum m c (y 0) (y 1) t.val t rfl _ (hL t hf)).1 (by show (y 1).val / 512 ≤ t.val % 37; omega))).trans ?_
  rw [show t.val / 37 + 1 = 16 by omega]
  refine (sum_part m c (y 0) (y 1)).trans ?_
  refine congrArg₂ (Spec.db _ _ _ _) ?_ ?_ <;> refine Fin.ext ?_ <;> blk_simp [idx t] <;> try omega

/-- The kernel's run: each result array ends at its gradient over the arrays the region is given, and the arguments end unchanged. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v5_0) = (fun j : S16384x3584.Idx => Spec.dx (dyA m c) (col (dsA m c)) (wA m c) (wsA m c) (aA m c) (bA m c) (j 0) (j 1))
      ∧ r.2.mem ((c.tc : Thread nD τ).loc main_v5_1) = (fun j : S48x18944.Idx => Spec.db (dyA m c) (col (dsA m c)) (zA m c) (col (zsA m c)) (j 0) (j 1))
      ∧ r.2.mem ((c.tc : Thread nD τ).loc main_v5_2) = (fun j : S16384x48.Idx => Spec.dh (dyA m c) (col (dsA m c)) (bA m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run _ _ _).mono (fun r h c => ?_) (θ_run_and (run_quiescent m ρ) (frame m ρ))
  obtain ⟨after, hL, hA⟩ := RDat.FramePost.exists_exact h.1.1 c
  exact ⟨(hA 8).trans (final8 m c after (hL 8)), (hA 9).trans (final9 m c after (hL 9)), (hA 10).trans (final10 m c after (hL 10)), h.2.1 c⟩

end Cert.KernelIdeal.Val

end
-- ==== Proof.RVal.lean ====
/-
  The reference's three result arrays: each is its gradient's mathematics over the arrays the reference is given.
-/
module

public import proofs.«01_k».proof.Proof.Gen.ReferenceIdeal.Frame
public import proofs.«01_k».proof.Proof.Gen.ReferenceIdeal.Skeleton
public import proofs.«01_k».proof.Proof.Spec

@[expose] public section

set_option maxRecDepth 16384

noncomputable section

namespace Cert.ReferenceIdeal.Val

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ)

/-! ## What the body stores, at an index -/

/-- The low-rank gradient stored. -/
theorem pay7_at (dy : FVec Ideal S16384x18944 .fp8e5m2) (ds : FVec Ideal S16384x1 .f32) (b : FVec Ideal S48x18944 .bf16)
    (j : S16384x48.Idx) : k0_pay7 (F := Ideal) dy ds b j = Spec.dh dy ds b (j 0) (j 1) := by
  unfold Spec.dh
  rw [← Spec.two_f32]
  pointwise [k0_pay7, k0_pay5, k0_pay3, k0_pay2]

/-- The gradient of `b` stored. -/
theorem pay6_at (dy : FVec Ideal S16384x18944 .fp8e5m2) (ds : FVec Ideal S16384x1 .f32) (z : FVec Ideal S16384x48 .fp8e4m3)
    (zs : FVec Ideal S16384x1 .f32)
    (j : S48x18944.Idx) : k0_pay6 (F := Ideal) dy ds z zs j = Spec.db dy ds z zs (j 0) (j 1) := by
  unfold Spec.db
  rw [← Spec.two_f32]
  pointwise [k0_pay6, k0_pay5, k0_pay3, k0_pay2]

/-- The gradient of the input stored. -/
theorem pay1_at (dy : FVec Ideal S16384x18944 .fp8e5m2) (ds : FVec Ideal S16384x1 .f32) (w : FVec Ideal S3584x18944 .fp8e4m3)
    (ws : FVec Ideal S1x3584 .f32) (a : FVec Ideal S3584x48 .bf16) (b : FVec Ideal S48x18944 .bf16) (j : S16384x3584.Idx) :
    k0_pay1 (F := Ideal) (k0_pay3 ds) (k0_pay4 ws) a (k0_pay7 dy ds b) (k0_pay8 dy w) j
      = Spec.dx dy ds w ws a b (j 0) (j 1) := by
  unfold Spec.dx Spec.dh
  rw [← Spec.two_f32]
  pointwise [k0_pay1, k0_pay7, k0_pay5, k0_pay3, k0_pay2, k0_pay4, k0_pay8]

/-! ## The blocks are the whole arrays -/

/-- Window 0's block is its whole array. -/
theorem iblk0 (c : Dev nD) (t : Fin cfg0.N) : iblk m c 0 t = V m c main_v0 := by
  funext y
  have h : ∀ t : Fin cfg0.N, win0_0.index t = ![0, 0] := (by decide +kernel : ∀ t : Fin grid0.N, _)
  blk_ext [iblk, h t]

/-- Window 1's block is its whole array. -/
theorem iblk1 (c : Dev nD) (t : Fin cfg0.N) : iblk m c 1 t = V m c main_v1 := by
  funext y
  have h : ∀ t : Fin cfg0.N, win0_1.index t = ![0, 0] := (by decide +kernel : ∀ t : Fin grid0.N, _)
  blk_ext [iblk, h t]

/-- Window 2's block is its whole array. -/
theorem iblk2 (c : Dev nD) (t : Fin cfg0.N) : iblk m c 2 t = V m c main_v2 := by
  funext y
  have h : ∀ t : Fin cfg0.N, win0_2.index t = ![0, 0] := (by decide +kernel : ∀ t : Fin grid0.N, _)
  blk_ext [iblk, h t]

/-- Window 3's block is its whole array. -/
theorem iblk3 (c : Dev nD) (t : Fin cfg0.N) : iblk m c 3 t = V m c main_v3 := by
  funext y
  have h : ∀ t : Fin cfg0.N, win0_3.index t = ![0, 0] := (by decide +kernel : ∀ t : Fin grid0.N, _)
  blk_ext [iblk, h t]

/-- Window 4's block is its whole array. -/
theorem iblk4 (c : Dev nD) (t : Fin cfg0.N) : iblk m c 4 t = V m c main_arg4 := by
  funext y
  have h : ∀ t : Fin cfg0.N, win0_4.index t = ![0, 0] := (by decide +kernel : ∀ t : Fin grid0.N, _)
  blk_ext [iblk, h t]

/-- Window 5's block is its whole array. -/
theorem iblk5 (c : Dev nD) (t : Fin cfg0.N) : iblk m c 5 t = V m c main_v4 := by
  funext y
  have h : ∀ t : Fin cfg0.N, win0_5.index t = ![0, 0] := (by decide +kernel : ∀ t : Fin grid0.N, _)
  blk_ext [iblk, h t]

/-- Window 6's block is its whole array. -/
theorem iblk6 (c : Dev nD) (t : Fin cfg0.N) : iblk m c 6 t = V m c main_arg6 := by
  funext y
  have h : ∀ t : Fin cfg0.N, win0_6.index t = ![0, 0] := (by decide +kernel : ∀ t : Fin grid0.N, _)
  blk_ext [iblk, h t]

/-- Window 7's block is its whole array. -/
theorem iblk7 (c : Dev nD) (t : Fin cfg0.N) : iblk m c 7 t = V m c main_arg7 := by
  funext y
  have h : ∀ t : Fin cfg0.N, win0_7.index t = ![0, 0] := (by decide +kernel : ∀ t : Fin grid0.N, _)
  blk_ext [iblk, h t]

/-! ## The arrays after the run -/

/-- The reference's input-gradient array after the run. -/
theorem final8 (c : Dev nD) : (dats m 0 c).arrAt 8 (cfgs 0).N
    = fun j : S16384x3584.Idx => Spec.dx (V m c main_v0) (V m c main_v1) (V m c main_arg4) (V m c main_v4) (V m c main_arg6) (V m c main_arg7) (j 0) (j 1) := by
  refine (dats m 0 c).arrAt_eq_of_after_last 8 t0_0 (by decide +kernel) _ fun j => ?_
  blk_simp
  rw [after0_8]
  frame_out
  rw [pay1_at]
  rw [iblk0, iblk1, iblk4, iblk5, iblk6, iblk7]

/-- The reference's `b`-gradient array after the run. -/
theorem final9 (c : Dev nD) : (dats m 0 c).arrAt 9 (cfgs 0).N
    = fun j : S48x18944.Idx => Spec.db (V m c main_v0) (V m c main_v1) (V m c main_v2) (V m c main_v3) (j 0) (j 1) := by
  refine (dats m 0 c).arrAt_eq_of_after_last 9 t0_0 (by decide +kernel) _ fun j => ?_
  blk_simp
  rw [after0_9]
  frame_out
  rw [pay6_at]
  rw [iblk0, iblk1, iblk2, iblk3]

/-- The reference's low-rank gradient array after the run. -/
theorem final10 (c : Dev nD) : (dats m 0 c).arrAt 10 (cfgs 0).N
    = fun j : S16384x48.Idx => Spec.dh (V m c main_v0) (V m c main_v1) (V m c main_arg7) (j 0) (j 1) := by
  refine (dats m 0 c).arrAt_eq_of_after_last 10 t0_0 (by decide +kernel) _ fun j => ?_
  blk_simp
  rw [after0_10]
  frame_out
  rw [pay7_at]
  rw [iblk0, iblk1, iblk7]

end Cert.ReferenceIdeal.Val

end
-- ==== Proof.Equal.lean ====
/-
  The kernel's results are the reference's: the two programs are given the same arrays up to how the scales are laid out, and each computes the
  same three gradients of them.
-/
module

public import proofs.«01_k».proof.Defs
public import proofs.«01_k».proof.Proof.KVal
public import proofs.«01_k».proof.Proof.RVal

@[expose] public section

set_option maxRecDepth 16384

noncomputable section

namespace Cert.Equal

open Idealize.ShloMosaic Idealize.ShloMosaic.TcCoe Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-! ## The arrays the two regions are given, from equal arguments -/

/-- The same gradient codes. -/
theorem dy_eq (c : Dev Cert.KernelIdeal.nD) (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Gen.V m' c Cert.ReferenceIdeal.main_v0 = KernelIdeal.Val.dyA m c := by
  unfold KernelIdeal.Val.dyA
  entry_read
  exact congrArg (fun x : FVec Ideal Cert.KernelIdeal.S2x8192x18944 .fp8e5m2 => shapeCast _ x _) h

/-- The same activation codes. -/
theorem z_eq (c : Dev Cert.KernelIdeal.nD) (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Gen.V m' c Cert.ReferenceIdeal.main_v2 = KernelIdeal.Val.zA m c := by
  unfold KernelIdeal.Val.zA
  entry_read
  exact congrArg (fun x : FVec Ideal Cert.KernelIdeal.S2x8192x48 .fp8e4m3 => shapeCast _ x _) h

/-- The same weight scales. -/
theorem ws_eq (c : Dev Cert.KernelIdeal.nD) (h : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Gen.V m' c Cert.ReferenceIdeal.main_v4 = KernelIdeal.Val.wsA m c := by
  unfold KernelIdeal.Val.wsA
  entry_read
  exact congrArg (fun x : FVec Ideal Cert.KernelIdeal.S3584 .f32 => shapeCast _ x _) h

/-- The same scales of the gradient codes, here in a column and there in rows. -/
theorem ds_eq (c : Dev Cert.KernelIdeal.nD) (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (Cert.ReferenceIdeal.Gen.V m' c Cert.ReferenceIdeal.main_v1 : FVec Ideal Spec.Col .f32) = KernelIdeal.Val.col (KernelIdeal.Val.dsA m c) := by
  unfold KernelIdeal.Val.dsA
  entry_read
  funext j
  unfold KernelIdeal.Val.col
  pointwise
  refine (congrFun h _).trans (congrArg (m ((c.tc : Thread Cert.KernelIdeal.nD Cert.KernelIdeal.τ).loc Cert.KernelIdeal.main_arg1)) ?_)
  have hj : (j 0).val < 16384 := (j 0).isLt
  funext a
  refine Fin.ext ?_
  match a with
  | ⟨0, _⟩ => show (j 0).val / 8192 = (j 0).val / 1024 / 8; omega
  | ⟨1, _⟩ => show (j 0).val % 8192 = (j 0).val / 1024 % 8 * 1024 + (j 0).val % 1024; omega

/-- The same scales of the activation codes, here in a column and there in rows. -/
theorem zs_eq (c : Dev Cert.KernelIdeal.nD) (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (Cert.ReferenceIdeal.Gen.V m' c Cert.ReferenceIdeal.main_v3 : FVec Ideal Spec.Col .f32) = KernelIdeal.Val.col (KernelIdeal.Val.zsA m c) := by
  unfold KernelIdeal.Val.zsA
  entry_read
  funext j
  unfold KernelIdeal.Val.col
  pointwise
  refine (congrFun h _).trans (congrArg (m ((c.tc : Thread Cert.KernelIdeal.nD Cert.KernelIdeal.τ).loc Cert.KernelIdeal.main_arg3)) ?_)
  have hj : (j 0).val < 16384 := (j 0).isLt
  funext a
  refine Fin.ext ?_
  match a with
  | ⟨0, _⟩ => show (j 0).val / 8192 = (j 0).val / 1024 / 8; omega
  | ⟨1, _⟩ => show (j 0).val % 8192 = (j 0).val / 1024 % 8 * 1024 + (j 0).val % 1024; omega

/-- The same weight codes. -/
theorem w_eq (c : Dev Cert.KernelIdeal.nD) (h : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Gen.V m' c Cert.ReferenceIdeal.main_arg4 = KernelIdeal.Val.wA m c :=
  (Cert.ReferenceIdeal.Gen.V_main_arg4 m' c).trans (h.trans (Cert.KernelIdeal.Gen.V_main_arg4 m c).symm)

/-- The same factor `a`. -/
theorem a_eq (c : Dev Cert.KernelIdeal.nD) (h : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Gen.V m' c Cert.ReferenceIdeal.main_arg6 = KernelIdeal.Val.aA m c :=
  (Cert.ReferenceIdeal.Gen.V_main_arg6 m' c).trans (h.trans (Cert.KernelIdeal.Gen.V_main_arg6 m c).symm)

/-- The same factor `b`. -/
theorem b_eq (c : Dev Cert.KernelIdeal.nD) (h : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Gen.V m' c Cert.ReferenceIdeal.main_arg7 = KernelIdeal.Val.bA m c :=
  (Cert.ReferenceIdeal.Gen.V_main_arg7 m' c).trans (h.trans (Cert.KernelIdeal.Gen.V_main_arg7 m c).symm)

/-! ## The claim -/

/-- From equal arguments the kernel and the reference end with equal results, all three, and with their arguments unchanged. -/
theorem algebraic : Cert.algebraic_KernelIdeal_ReferenceIdeal := by
  pair_intro
  · run_from Cert.KernelIdeal.Val.run m g
  · run_from Cert.ReferenceIdeal.Gen.run_main m' g'
    all_goals obtain ⟨h0, h1, h2, h3, h4, h5, h6, h7⟩ := hagree c
    · rw [Cert.ReferenceIdeal.Val.final8 m' c, dy_eq m m' c h0, ds_eq m m' c h1, w_eq m m' c h4, ws_eq m m' c h5, a_eq m m' c h6, b_eq m m' c h7]
    · rw [Cert.ReferenceIdeal.Val.final9 m' c, dy_eq m m' c h0, ds_eq m m' c h1, z_eq m m' c h2, zs_eq m m' c h3]
    · rw [Cert.ReferenceIdeal.Val.final10 m' c, dy_eq m m' c h0, ds_eq m m' c h1, b_eq m m' c h7]

end Cert.Equal

end
-- ==== Proof.lean ====
/-
  The certificate: the side conditions of the three programs, and every claim about them.
-/
module

public import proofs.«01_k».proof.Defs
public import proofs.«01_k».proof.Proof.KernelRun
public import proofs.«01_k».proof.Proof.Gen.ReferenceIdeal.Frame
public import proofs.«01_k».proof.Proof.Run
public import proofs.«01_k».proof.Proof.Equal

@[expose] public section

noncomputable section

namespace Cert.Proof

open Idealize.ShloMosaic Idealize.SL.Sem

/-- The kernel, its idealization and the reference run to the end and leave their arguments as they were; the kernel and its idealization are
    one text; and the idealized kernel's three results are the reference's. -/
theorem claim : Cert.Claim :=
  ⟨Cert.Kernel.Gen.facts, Cert.KernelIdeal.Gen.facts, Cert.ReferenceIdeal.Gen.facts,
    fun m ρ _ => Cert.Kernel.Val.frame m ρ, fun m ρ _ => Cert.KernelIdeal.Val.frame m ρ,
    fun m ρ _ => Cert.ReferenceIdeal.Gen.frame m ρ, trivial, Cert.Equal.algebraic⟩

end Cert.Proof

end
